-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1024x3584 : Shape := ⟨3, ![12, 1024, 3584]⟩
abbrev S448x18944 : Shape := ⟨2, ![448, 18944]⟩
abbrev S112x18944 : Shape := ⟨2, ![112, 18944]⟩
abbrev S112x2368 : Shape := ⟨2, ![112, 2368]⟩
abbrev S112x32 : Shape := ⟨2, ![112, 32]⟩
abbrev S32x18944 : Shape := ⟨2, ![32, 18944]⟩
abbrev S12288x3584 : Shape := ⟨2, ![12288, 3584]⟩
abbrev S12288x18944 : Shape := ⟨2, ![12288, 18944]⟩
abbrev S2048x3584 : Shape := ⟨2, ![2048, 3584]⟩
abbrev S448x512 : Shape := ⟨2, ![448, 512]⟩
abbrev S112x512 : Shape := ⟨2, ![112, 512]⟩
abbrev S112x128 : Shape := ⟨2, ![112, 128]⟩
abbrev S32x512 : Shape := ⟨2, ![32, 512]⟩
abbrev S2048x512 : Shape := ⟨2, ![2048, 512]⟩
abbrev S3584x128 : Shape := ⟨2, ![3584, 128]⟩
abbrev S2048x32 : Shape := ⟨2, ![2048, 32]⟩
abbrev S3584x512 : Shape := ⟨2, ![3584, 512]⟩
abbrev S2048x128 : Shape := ⟨2, ![2048, 128]⟩
abbrev S2048x112 : Shape := ⟨2, ![2048, 112]⟩
abbrev S112x128x1 : Shape := ⟨3, ![112, 128, 1]⟩
abbrev S4x512 : Shape := ⟨2, ![4, 512]⟩
abbrev S4x1x512 : Shape := ⟨3, ![4, 1, 512]⟩
abbrev S4x8x512 : Shape := ⟨3, ![4, 8, 512]⟩
abbrev S1x512 : Shape := ⟨2, ![1, 512]⟩
abbrev S12x1024x18944 : Shape := ⟨3, ![12, 1024, 18944]⟩

abbrev nBuf : Space → Nat
  | .hbm => 9
  | .vmem => 18
  | .smem => 0
  | _ => 0

abbrev bufTy : (tb : Table) → Fin (tcTables nBuf tb) → BufTy
  | .hbm, ⟨0, _⟩ => ⟨S12x1024x3584, .bf16⟩
  | .hbm, ⟨1, _⟩ => ⟨S448x18944, .i32⟩
  | .hbm, ⟨2, _⟩ => ⟨S112x18944, .bf16⟩
  | .hbm, ⟨3, _⟩ => ⟨S112x2368, .i32⟩
  | .hbm, ⟨4, _⟩ => ⟨S112x32, .bf16⟩
  | .hbm, ⟨5, _⟩ => ⟨S32x18944, .bf16⟩
  | .hbm, ⟨6, _⟩ => ⟨S12288x3584, .bf16⟩
  | .hbm, ⟨7, _⟩ => ⟨S12288x18944, .bf16⟩
  | .hbm, ⟨8, _⟩ => ⟨S12x1024x18944, .bf16⟩
  | .local _ .vmem, ⟨0, _⟩ => ⟨S2048x3584, .bf16⟩
  | .local _ .vmem, ⟨1, _⟩ => ⟨S2048x3584, .bf16⟩
  | .local _ .vmem, ⟨2, _⟩ => ⟨S448x512, .i32⟩
  | .local _ .vmem, ⟨3, _⟩ => ⟨S448x512, .i32⟩
  | .local _ .vmem, ⟨4, _⟩ => ⟨S112x512, .bf16⟩
  | .local _ .vmem, ⟨5, _⟩ => ⟨S112x512, .bf16⟩
  | .local _ .vmem, ⟨6, _⟩ => ⟨S112x128, .i32⟩
  | .local _ .vmem, ⟨7, _⟩ => ⟨S112x128, .i32⟩
  | .local _ .vmem, ⟨8, _⟩ => ⟨S112x32, .bf16⟩
  | .local _ .vmem, ⟨9, _⟩ => ⟨S32x512, .bf16⟩
  | .local _ .vmem, ⟨10, _⟩ => ⟨S32x512, .bf16⟩
  | .local _ .vmem, ⟨11, _⟩ => ⟨S2048x512, .bf16⟩
  | .local _ .vmem, ⟨12, _⟩ => ⟨S2048x512, .bf16⟩
  | .local _ .vmem, ⟨13, _⟩ => ⟨S3584x128, .bf16⟩
  | .local _ .vmem, ⟨14, _⟩ => ⟨S2048x32, .bf16⟩
  | .local _ .vmem, ⟨15, _⟩ => ⟨S3584x512, .bf16⟩
  | .local _ .vmem, ⟨16, _⟩ => ⟨S112x512, .f32⟩
  | .local _ .vmem, ⟨17, _⟩ => ⟨S112x512, .f32⟩
  | _, _ => ⟨S12x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S448x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S112x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S112x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S12x1024x3584 : Shape := ⟨3, ![12, 1024, 3584]⟩
abbrev S448x18944 : Shape := ⟨2, ![448, 18944]⟩
abbrev S112x18944 : Shape := ⟨2, ![112, 18944]⟩
abbrev S112x2368 : Shape := ⟨2, ![112, 2368]⟩
abbrev S112x32 : Shape := ⟨2, ![112, 32]⟩
abbrev S32x18944 : Shape := ⟨2, ![32, 18944]⟩
abbrev S8 : Shape := ⟨1, ![8]⟩
abbrev S_ : Shape := ⟨0, ![]⟩
abbrev S112x2368x1 : Shape := ⟨3, ![112, 2368, 1]⟩
abbrev S1x1x8 : Shape := ⟨3, ![1, 1, 8]⟩
abbrev S112x2368x8 : Shape := ⟨3, ![112, 2368, 8]⟩
abbrev S1x112x1x18944 : Shape := ⟨4, ![1, 112, 1, 18944]⟩
abbrev S1x448x18944 : Shape := ⟨3, ![1, 448, 18944]⟩
abbrev S8x1x1 : Shape := ⟨3, ![8, 1, 1]⟩
abbrev S8x448x18944 : Shape := ⟨3, ![8, 448, 18944]⟩
abbrev S8x112x4x18944 : Shape := ⟨4, ![8, 112, 4, 18944]⟩
abbrev S3584x18944 : Shape := ⟨2, ![3584, 18944]⟩
abbrev S12x1024x448x8 : Shape := ⟨4, ![12, 1024, 448, 8]⟩
abbrev S12x1024x8x448 : Shape := ⟨4, ![12, 1024, 8, 448]⟩
abbrev S12x1024x18944 : Shape := ⟨3, ![12, 1024, 18944]⟩
abbrev S12x1024x112x32 : Shape := ⟨4, ![12, 1024, 112, 32]⟩
abbrev S12x1024x112 : Shape := ⟨3, ![12, 1024, 112]⟩
abbrev S12x1024x32 : Shape := ⟨3, ![12, 1024, 32]⟩

abbrev nBuf : Space → Nat
  | .hbm => 56
  | .vmem => 0
  | .smem => 0
  | _ => 0

abbrev bufTy : (tb : Table) → Fin (tcTables nBuf tb) → BufTy
  | .hbm, ⟨0, _⟩ => ⟨S12x1024x3584, .bf16⟩
  | .hbm, ⟨1, _⟩ => ⟨S448x18944, .i32⟩
  | .hbm, ⟨2, _⟩ => ⟨S112x18944, .bf16⟩
  | .hbm, ⟨3, _⟩ => ⟨S112x2368, .i32⟩
  | .hbm, ⟨4, _⟩ => ⟨S112x32, .bf16⟩
  | .hbm, ⟨5, _⟩ => ⟨S32x18944, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S112x2368x1, .i32⟩
  | .hbm, ⟨11, _⟩ => ⟨S1x1x8, .i32⟩
  | .hbm, ⟨12, _⟩ => ⟨S112x2368x8, .i32⟩
  | .hbm, ⟨13, _⟩ => ⟨S112x2368x8, .i32⟩
  | .hbm, ⟨14, _⟩ => ⟨S112x2368x8, .i32⟩
  | .hbm, ⟨15, _⟩ => ⟨S_, .i32⟩
  | .hbm, ⟨16, _⟩ => ⟨S112x2368x8, .i32⟩
  | .hbm, ⟨17, _⟩ => ⟨S112x2368x8, .i32⟩
  | .hbm, ⟨18, _⟩ => ⟨S1x112x1x18944, .i32⟩
  | .hbm, ⟨19, _⟩ => ⟨S1x112x1x18944, .bf16⟩
  | .hbm, ⟨20, _⟩ => ⟨S1x112x1x18944, .bf16⟩
  | .hbm, ⟨21, _⟩ => ⟨S1x448x18944, .i32⟩
  | .hbm, ⟨22, _⟩ => ⟨S8x1x1, .i32⟩
  | .hbm, ⟨23, _⟩ => ⟨S8x448x18944, .i32⟩
  | .hbm, ⟨24, _⟩ => ⟨S8x448x18944, .i32⟩
  | .hbm, ⟨25, _⟩ => ⟨S8x448x18944, .i32⟩
  | .hbm, ⟨26, _⟩ => ⟨S_, .i32⟩
  | .hbm, ⟨27, _⟩ => ⟨S8x448x18944, .i32⟩
  | .hbm, ⟨28, _⟩ => ⟨S8x448x18944, .i32⟩
  | .hbm, ⟨29, _⟩ => ⟨S8x448x18944, .bf16⟩
  | .hbm, ⟨30, _⟩ => ⟨S8x112x4x18944, .bf16⟩
  | .hbm, ⟨31, _⟩ => ⟨S8x112x4x18944, .bf16⟩
  | .hbm, ⟨32, _⟩ => ⟨S8x112x4x18944, .bf16⟩
  | .hbm, ⟨33, _⟩ => ⟨S8x112x4x18944, .bf16⟩
  | .hbm, ⟨34, _⟩ => ⟨S8x112x4x18944, .bf16⟩
  | .hbm, ⟨35, _⟩ => ⟨S3584x18944, .bf16⟩
  | .hbm, ⟨36, _⟩ => ⟨S12x1024x448x8, .bf16⟩
  | .hbm, ⟨37, _⟩ => ⟨S12x1024x8x448, .bf16⟩
  | .hbm, ⟨38, _⟩ => ⟨S12x1024x3584, .bf16⟩
  | .hbm, ⟨39, _⟩ => ⟨S12x1024x18944, .f32⟩
  | .hbm, ⟨40, _⟩ => ⟨S12x1024x3584, .f32⟩
  | .hbm, ⟨41, _⟩ => ⟨S12x1024x112x32, .f32⟩
  | .hbm, ⟨42, _⟩ => ⟨S_, .f32⟩
  | .hbm, ⟨43, _⟩ => ⟨S12x1024x112, .f32⟩
  | .hbm, ⟨44, _⟩ => ⟨S_, .f32⟩
  | .hbm, ⟨45, _⟩ => ⟨S12x1024x112, .f32⟩
  | .hbm, ⟨46, _⟩ => ⟨S12x1024x112, .f32⟩
  | .hbm, ⟨47, _⟩ => ⟨S12x1024x112, .bf16⟩
  | .hbm, ⟨48, _⟩ => ⟨S12x1024x32, .f32⟩
  | .hbm, ⟨49, _⟩ => ⟨S_, .f32⟩
  | .hbm, ⟨50, _⟩ => ⟨S12x1024x32, .f32⟩
  | .hbm, ⟨51, _⟩ => ⟨S12x1024x32, .f32⟩
  | .hbm, ⟨52, _⟩ => ⟨S12x1024x32, .bf16⟩
  | .hbm, ⟨53, _⟩ => ⟨S12x1024x18944, .f32⟩
  | .hbm, ⟨54, _⟩ => ⟨S12x1024x18944, .f32⟩
  | .hbm, ⟨55, _⟩ => ⟨S12x1024x18944, .bf16⟩
  | _, _ => ⟨S12x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.Ref.Frame.lean ====
module

public import Idealize.ShloMosaic.Lib.Quiescent
public import proofs.«01_k».proof.Proof.Gen.ReferenceIdeal
public import proofs.«01_k».proof.Proof.Gen.ReferenceIdeal.Run

/-!
# The frame of the reference

The reference is a straight line of host operations on a signature with no semaphore, so its run gives the frame.
-/

@[expose] public section

noncomputable section

namespace Cert.ReferenceIdeal.Value

open Idealize.ShloMosaic Idealize.SL.Sem Cert.ReferenceIdeal Cert.ReferenceIdeal.Gen

variable {F : FTy → Type} [FloatOps F]

/-- The frame claim's statement, at any values. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (run m ρ)

end Cert.ReferenceIdeal.Value

end
-- ==== Proof.Bits.Runs.lean ====
/- What the three runs of the kernel body share: the branch conditions over the grid points, the staging and scratch
   memrefs, and the scratch part of the region invariant. -/
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 222 = 0 :=
  (fun t => by
    have ht : t.val < 222 := Nat.lt_of_lt_of_eq t.isLt N_0
    have e0 : (grid0.coords t 0).val = t.val / 37 % 6 := Pipeline.Grid.coords_val t 0 (by decide) rfl
    have e1 : (grid0.coords t 1).val = t.val / 1 % 37 := Pipeline.Grid.coords_val t 1 (by decide) rfl
    simp only [cond0_0, e0, e1]
    word_cmp
   : ∀ t : Fin grid0.N, cond0_0 (grid0.coords t) ↔ t.val % 222 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 37) — by arithmetic of the point. -/
theorem hcond0_1 : ∀ t : Fin cfg0.N, cond0_1 (grid0.coords t) ↔ t.val % 37 = 0 :=
  (fun t => by
    have ht : t.val < 222 := Nat.lt_of_lt_of_eq t.isLt N_0
    have e0 : (grid0.coords t 0).val = t.val / 37 % 6 := Pipeline.Grid.coords_val t 0 (by decide) rfl
    have e1 : (grid0.coords t 1).val = t.val / 1 % 37 := Pipeline.Grid.coords_val t 1 (by decide) rfl
    simp only [cond0_1, e0, e1]
    word_cmp
   : ∀ t : Fin grid0.N, cond0_1 (grid0.coords t) ↔ t.val % 37 = 0)

/-! ## The kernel body on any staging memrefs: a subtype the run finds -/

/-- Each window's current staging memref at point `t`, spelled as the pipeline passes it (`bodyAt0`), and its wholeness. -/
abbrev ms0_0 (t : Fin cfg0.N) : Memref sig .tc .vmem S2048x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S448x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S112x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3584x128 .bf16 := Memref.whole cc0_scratch0
abbrev scM0_1 : Memref sig .tc .vmem S2048x32 .bf16 := Memref.whole cc0_scratch1
abbrev scM0_2 : Memref sig .tc .vmem S3584x512 .bf16 := Memref.whole cc0_scratch2
abbrev scM0_3 : Memref sig .tc .vmem S112x512 .f32 := Memref.whole cc0_scratch3
abbrev scM0_4 : Memref sig .tc .vmem S112x512 .f32 := Memref.whole cc0_scratch4
/-- The scratch `arg9` the kernel carries between points, as a view: what it holds is stated through it. -/
abbrev VS0_0 : View sig .tc .vmem S3584x128 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.Bits.RunA.lean ====
/- The run of the whole kernel body in case A of its two branches. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3416000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_A (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole) (hc0 : cond0_0 i) (hc1 : cond0_1 i)
    (x0 : Vec F S2048x3584 .bf16) (x1 : Vec F S448x512 .i32) (x2 : Vec F S112x512 .bf16) (x3 : Vec F S112x128 .i32) (x4 : Vec F S112x32 .bf16) (x5 : Vec F S32x512 .bf16) :
    { LS0 : List (View.Piece (Elt F) S3584x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qalora i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_qalora_eq_skeleton]; unfold cc0_qalora_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Bits.RunB.lean ====
/- The run of the whole kernel body in case B of its two branches. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3380000 in
/-- What the body's stores leave in each output's staging memref, as pieces (last first) IN CASE B (`scf.if` 0 not taken, `scf.if` 1 not taken: points 1, 2, … 221: 216 of 222), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_B (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole) (hc0 : ¬cond0_0 i) (hc1 : ¬cond0_1 i)
    (x0 : Vec F S2048x3584 .bf16) (x1 : Vec F S448x512 .i32) (x2 : Vec F S112x512 .bf16) (x3 : Vec F S112x128 .i32) (x4 : Vec F S112x32 .bf16) (x5 : Vec F S32x512 .bf16) (xs0 : Vec F S3584x128 .bf16) :
    { LS0 : List (View.Piece (Elt F) S3584x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qalora i arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_qalora_eq_skeleton]; unfold cc0_qalora_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Bits.RunC.lean ====
/- The run of the whole kernel body in case C of its two branches. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3404000 in
/-- What the body's stores leave in each output's staging memref, as pieces (last first) IN CASE C (`scf.if` 0 not taken, `scf.if` 1 taken: points 37, 74, 111, 148, 185), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_C (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole) (hc0 : ¬cond0_0 i) (hc1 : cond0_1 i)
    (x0 : Vec F S2048x3584 .bf16) (x1 : Vec F S448x512 .i32) (x2 : Vec F S112x512 .bf16) (x3 : Vec F S112x128 .i32) (x4 : Vec F S112x32 .bf16) (x5 : Vec F S32x512 .bf16) (xs0 : Vec F S3584x128 .bf16) :
    { LS0 : List (View.Piece (Elt F) S3584x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qalora i arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_qalora_eq_skeleton]; unfold cc0_qalora_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Bits.Forget.lean ====
module

public import Idealize.ShloMosaic.Lib.Pipeline
public import Idealize.ShloMosaic.Lib.Pipeline.FrameSuffix
public import proofs.«01_k».proof.Proof.Gen.Kernel.Launch
public import proofs.«01_k».proof.Proof.Gen.Kernel.Frame
public import proofs.«01_k».proof.Proof.Bits.RunC

/-!
# The frame of `Kernel`, the output forgotten

The window of the packed zero points overhangs its array at the last blocks, so its staging buffer holds the array's
words on the part inside and anything elsewhere.  The proof data here say so, say nothing of the output block and
nothing of the scratch buffers; that is enough for termination, unchanged arguments and quiescent counters.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero-point window's staging buffer at point `t`: the block's words on the part inside the array, `d` elsewhere. -/
def zfill (c : Dev nD) (t : Fin cfg0.N) (d : Vec F S112x128 .i32) : Vec F S112x128 .i32 :=
  (cfg0.win 3).fill (cfg0.grid.coords t) d (iblk m c 3 t)

namespace Forget

/-- The proof data: each input's buffer at its block (window 3's on the part inside the array), every scratch at
    anything, nothing of the output (its entry is never read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zfill m c t (fun _ => (0#32 : BitVec 32))
    | ⟨4, _⟩ => iblk m c 4 t
    | ⟨5, _⟩ => iblk m c 5 t
    | ⟨6, _⟩ => iblk m c 6 t
  Φ _ := Pipeline.ΦA spec0 c
  q _ := fullShare
  owed _ := 0

/-- The output window is the forgotten one. -/
def fgt : Fin cfg0.W → Bool := fun | 6 => true | _ => false

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zfill m c t (fun _ => (0#32 : BitVec 32)) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Forget

/-- Points with one block index of the zero-point window cut it alike. -/
theorem clip0_3 (t t' : Fin cfg0.N) (h : (cfg0.win 3).index t = (cfg0.win 3).index t') :
    (cfg0.win 3).clip (cfg0.grid.coords t) = (cfg0.win 3).clip (cfg0.grid.coords t') := by
  funext a
  exact congrArg (fun n => Pipeline.Clip.of n (S112x128.size a) (S112x2368.size a)) (congrFun h a)

/-- The zero-point window's staging buffer holds its block on the part inside the array, whatever proof data leave it so. -/
theorem before0_3_of {c : Dev nD} (dat : Dat τ (Elt F) Unit ℕ (UR sig nD τ) ℕ cfg0 c) (hA : dat.A 3 = V m c (Pipeline.arrRef spec0 3))
    (g : Fin cfg0.N → Vec F S112x128 .i32) (hafter : ∀ t, dat.after 3 t = zfill m c t (g t)) (t : Fin cfg0.N) (d) :
    dat.before 3 t d = zfill m c t d :=
  (dat.before_in_eq_fetched 3 rfl (fun _ => rfl) clip0_3 (fun t => by
      rw [hafter]; unfold zfill Dat.blockOf iblk; rw [(cfg0.win 3).cut_fill, hA]) t d).trans
    (by unfold Dat.fetched Dat.blockOf zfill iblk; rw [hA])

namespace Forget

theorem before0_3 (c : Dev nD) (t : Fin cfg0.N) (d) : (dats m 0 c).before 3 t d = zfill m c t d :=
  before0_3_of m (dats m 0 c) (A_eq m c 3) (fun _ => fun _ => (0#32 : BitVec 32)) (after0_3 m c) t d

/-- What the body is called with at point `t`, the windows one by one, -/
def bodyPre (c : Dev nD) (t : Fin cfg0.N) : sProp 𝕄 :=
  iprop(Pipeline.ΦA spec0 c ∗ (dats m 0 c).owesAt () t.castSucc
    ∗ (∃ d : Vec F S2048x3584 .bf16, owns (c : Thread nD τ) (ms0_0 t) fullShare (iblk m c 0 t))
    ∗ (∃ d : Vec F S448x512 .i32, owns (c : Thread nD τ) (ms0_1 t) fullShare (iblk m c 1 t))
    ∗ (∃ d : Vec F S112x512 .bf16, owns (c : Thread nD τ) (ms0_2 t) fullShare (iblk m c 2 t))
    ∗ (∃ d : Vec F S112x128 .i32, owns (c : Thread nD τ) (ms0_3 t) fullShare (zfill m c t d))
    ∗ (∃ d : Vec F S112x32 .bf16, owns (c : Thread nD τ) (ms0_4 t) fullShare (iblk m c 4 t))
    ∗ (∃ d : Vec F S32x512 .bf16, owns (c : Thread nD τ) (ms0_5 t) fullShare (iblk m c 5 t))
    ∗ (∃ X, owns (c : Thread nD τ) (ms0_6 t) fullShare X))

/-- and what it returns. -/
def bodyPost (c : Dev nD) (t : Fin cfg0.N) : sProp 𝕄 :=
  iprop(Pipeline.ΦA spec0 c ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ d : Vec F S112x128 .i32, owns (c : Thread nD τ) (ms0_3 t) fullShare (zfill m c t d))
    ∗ owns (c : Thread nD τ) (ms0_4 t) fullShare (iblk m c 4 t)
    ∗ owns (c : Thread nD τ) (ms0_5 t) fullShare (iblk m c 5 t)
    ∗ (∃ X, owns (c : Thread nD τ) (ms0_6 t) fullShare X))

set_option maxHeartbeats 14400000 in
/-- The body at a point of case A. -/
theorem sound_A (c : Dev nD) (t : Fin cfg0.N) (h0 : t.val % 222 = 0) (h1 : t.val % 37 = 0) :
    bodyPre m c t ⊢ wp frame (wpE (defs₀ (F := F)) Variants.none c none) Set.univ (bodyAt0 t) (fun _ => bodyPost m c t) := by
  unfold bodyPre bodyPost bodyAt0
  rw [PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply ((kernelRun0_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (zfill m c t d3) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%es0, HS0⟩, HS1, HS2, HS3, HS4⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexact H6

set_option maxHeartbeats 14400000 in
/-- The body at a point of case B. -/
theorem sound_B (c : Dev nD) (t : Fin cfg0.N) (h0 : ¬t.val % 222 = 0) (h1 : ¬t.val % 37 = 0) :
    bodyPre m c t ⊢ wp frame (wpE (defs₀ (F := F)) Variants.none c none) Set.univ (bodyAt0 t) (fun _ => bodyPost m c t) := by
  unfold bodyPre bodyPost bodyAt0
  rw [PhiA0_eq]
  iintro ⟨⟨⟨⟨%s0, HS0⟩, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (zfill m c t d3) (iblk m c 4 t) (iblk m c 5 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexists _; iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexact H6

set_option maxHeartbeats 14400000 in
/-- The body at a point of case C. -/
theorem sound_C (c : Dev nD) (t : Fin cfg0.N) (h0 : ¬t.val % 222 = 0) (h1 : t.val % 37 = 0) :
    bodyPre m c t ⊢ wp frame (wpE (defs₀ (F := F)) Variants.none c none) Set.univ (bodyAt0 t) (fun _ => bodyPost m c t) := by
  unfold bodyPre bodyPost bodyAt0
  rw [PhiA0_eq]
  iintro ⟨⟨⟨⟨%s0, HS0⟩, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (zfill m c t d3) (iblk m c 4 t) (iblk m c 5 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexists _; iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexact H6

/-- The body at any point: the three cases. -/
theorem sound_body (c : Dev nD) (t : Fin cfg0.N) :
    bodyPre m c t ⊢ wp frame (wpE (defs₀ (F := F)) Variants.none c none) Set.univ (bodyAt0 t) (fun _ => bodyPost m c t) := by
  by_cases h0 : t.val % 222 = 0
  · exact sound_A m c t h0 (by omega)
  · by_cases h1 : t.val % 37 = 0
    · exact sound_C m c t h0 h1
    · exact sound_B m c t h0 h1

end Forget

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

namespace Forget

/-- What the body finds is `bodyPre`. -/
theorem pre_eq (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ X, owns (c : Thread nD τ) (ms0_6 t) fullShare X)) = bodyPre (F := F) m c t := by
  simp only [before0_0, before0_1, before0_2, before0_3, before0_4, before0_5]; rfl

/-- What the body leaves, spelled by the proof data, is `bodyPost`. -/
theorem post_eq (c : Dev nD) (t : Fin cfg0.N) :
    iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ (∃ d, owns (c : Thread nD τ) (ms0_3 t) fullShare
          ((cfg0.win 3).fill (cfg0.grid.coords t) d ((cfg0.win 3).cut (cfg0.grid.coords t) ((dats m 0 c).after 3 t))))
      ∗ owns (c : Thread nD τ) (ms0_4 t) fullShare ((dats m 0 c).after 4 t)
      ∗ owns (c : Thread nD τ) (ms0_5 t) fullShare ((dats m 0 c).after 5 t)
      ∗ (∃ X, owns (c : Thread nD τ) (ms0_6 t) fullShare X)) = bodyPost (F := F) m c t := by
  rw [after0_0, after0_1, after0_2, after0_3, after0_4, after0_5]
  unfold zfill; simp only [(cfg0.win 3).cut_fill]; rfl

/-- The library's body obligation, the output forgotten. -/
theorem body_obligation (c : Dev nD) :
    BodyObligationLoose (dats (F := F) m 0 c) (defs₀ (F := F)) Variants.none () Set.univ fgt := fun t => by
  rw [bigSep_W0, bigSep_W0, defs₀_row]
  have h := sound_body m c t
  rw [← pre_eq, ← post_eq] at h
  exact triple_restated h rfl .rfl fun _ => .rfl

set_option backward.isDefEq.respectTransparency.types false in
/-- The launch: every array after the run, and every semaphore counter at zero. -/
theorem run_main_quiescent : θ_run defs (onTc (τ := τ) (main (F := F))) (s₀ m ρ)
    (fun r => (RDat.FramePostR cfg0 (fun c => (dats m 0 c).toRForget fgt) {main_v2} (V m)) r ∧ r.2.sem = fun _ => 0) :=
  Pipeline.θ_run_frame_around_T_forget (Q' := _) cfgs (dats m) (0 : Fin 1) launch0 defs₀ Variants.none fgt {main_v2} m ρ main
    (body_obligation m) (fun c => (dats m 0 c).share_full fun _ => rfl) (fun _ _ => rfl) (V0 m) [hostOps1]
    sfx_sub sfx_fresh sfx_keeps (by
      intro ops hops op hop b hb
      simp only [List.mem_cons, List.mem_nil_iff, or_false] at hops
      rcases hops with rfl
      simp only [hostOps1, List.mem_cons, List.mem_nil_iff, or_false] at hop
      rcases hop with rfl
      simp only [StableHlo.reshape_writes, Finset.mem_singleton] at hb ⊢
      exact Proc.devRef_injective _ hb)
    (hmain m Variants.none) (A_eq m) (fun _ _ => rfl) (hQ' := fun _ h => h)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      ((RDat.FramePostR.arr_in h.1 c 1 rfl).trans (A_eq m c 1)).trans (V_main_arg1 m c),
      ((RDat.FramePostR.arr_in h.1 c 2 rfl).trans (A_eq m c 2)).trans (V_main_arg2 m c),
      ((RDat.FramePostR.arr_in h.1 c 3 rfl).trans (A_eq m c 3)).trans (V_main_arg3 m c),
      ((RDat.FramePostR.arr_in h.1 c 4 rfl).trans (A_eq m c 4)).trans (V_main_arg4 m c),
      ((RDat.FramePostR.arr_in h.1 c 5 rfl).trans (A_eq m c 5)).trans (V_main_arg5 m c)⟩, h.2⟩) (run_main_quiescent m ρ)

end Forget

end Cert.Kernel.Gen

end
-- ==== Proof.Ideal.Runs.lean ====
/- What the three runs of the kernel body share: the branch conditions over the grid points, the staging and scratch
   memrefs, and the scratch part of the region invariant. -/
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 222 = 0 :=
  (fun t => by
    have ht : t.val < 222 := Nat.lt_of_lt_of_eq t.isLt N_0
    have e0 : (grid0.coords t 0).val = t.val / 37 % 6 := Pipeline.Grid.coords_val t 0 (by decide) rfl
    have e1 : (grid0.coords t 1).val = t.val / 1 % 37 := Pipeline.Grid.coords_val t 1 (by decide) rfl
    simp only [cond0_0, e0, e1]
    word_cmp
   : ∀ t : Fin grid0.N, cond0_0 (grid0.coords t) ↔ t.val % 222 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 37) — by arithmetic of the point. -/
theorem hcond0_1 : ∀ t : Fin cfg0.N, cond0_1 (grid0.coords t) ↔ t.val % 37 = 0 :=
  (fun t => by
    have ht : t.val < 222 := Nat.lt_of_lt_of_eq t.isLt N_0
    have e0 : (grid0.coords t 0).val = t.val / 37 % 6 := Pipeline.Grid.coords_val t 0 (by decide) rfl
    have e1 : (grid0.coords t 1).val = t.val / 1 % 37 := Pipeline.Grid.coords_val t 1 (by decide) rfl
    simp only [cond0_1, e0, e1]
    word_cmp
   : ∀ t : Fin grid0.N, cond0_1 (grid0.coords t) ↔ t.val % 37 = 0)

/-! ## The kernel body on any staging memrefs: a subtype the run finds -/

/-- One staging buffer of output window 6, through which its contents are stated (`View.read_writes_of_cover`: the
    choice does not matter). -/
abbrev VO0_6 : View sig .tc .vmem S2048x512 .bf16 := (Memref.whole cc0_stg6_0 : Memref sig .tc .vmem S2048x512 .bf16).view
/-- Each window's current staging memref at point `t`, spelled as the pipeline passes it (`bodyAt0`), and its wholeness. -/
abbrev ms0_0 (t : Fin cfg0.N) : Memref sig .tc .vmem S2048x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S448x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S112x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3584x128 .bf16 := Memref.whole cc0_scratch0
abbrev scM0_1 : Memref sig .tc .vmem S2048x32 .bf16 := Memref.whole cc0_scratch1
abbrev scM0_2 : Memref sig .tc .vmem S3584x512 .bf16 := Memref.whole cc0_scratch2
abbrev scM0_3 : Memref sig .tc .vmem S112x512 .f32 := Memref.whole cc0_scratch3
abbrev scM0_4 : Memref sig .tc .vmem S112x512 .f32 := Memref.whole cc0_scratch4
/-- The scratch `arg9` the kernel carries between points, as a view: what it holds is stated through it. -/
abbrev VS0_0 : View sig .tc .vmem S3584x128 .bf16 := scM0_0.view
/-- The scratch `arg10` the kernel carries between points, as a view: what it holds is stated through it. -/
abbrev VS0_1 : View sig .tc .vmem S2048x32 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Ideal.RunA.lean ====
/- The run of the whole kernel body in case A of its two branches. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3416000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole) (hc0 : cond0_0 i) (hc1 : cond0_1 i)
    (x0 : Vec F S2048x3584 .bf16) (x1 : Vec F S448x512 .i32) (x2 : Vec F S112x512 .bf16) (x3 : Vec F S112x128 .i32) (x4 : Vec F S112x32 .bf16) (x5 : Vec F S32x512 .bf16) :
    Σ' (L6 : List (View.Piece (Elt F) S2048x512 .bf16)), Σ' (LS0 : List (View.Piece (Elt F) S3584x128 .bf16)), Σ' (LS1 : List (View.Piece (Elt F) S2048x32 .bf16)), Σ' (LT2 : List (View.Piece (Elt F) S3584x512 .bf16)), Σ' (LT3 : List (View.Piece (Elt F) S112x512 .f32)), { LT4 : List (View.Piece (Elt F) S112x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_qalora i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_qalora_eq_skeleton]; unfold cc0_qalora_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Ideal.RunB.lean ====
/- The run of the whole kernel body in case B of its two branches. -/
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3380000 in
/-- What the body's stores leave in each output's staging memref, as pieces (last first) IN CASE B (`scf.if` 0 not taken, `scf.if` 1 not taken: points 1, 2, … 221: 216 of 222), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole) (hc0 : ¬cond0_0 i) (hc1 : ¬cond0_1 i)
    (x0 : Vec F S2048x3584 .bf16) (x1 : Vec F S448x512 .i32) (x2 : Vec F S112x512 .bf16) (x3 : Vec F S112x128 .i32) (x4 : Vec F S112x32 .bf16) (x5 : Vec F S32x512 .bf16) (xs0 : Vec F S3584x128 .bf16) (xs1 : Vec F S2048x32 .bf16) :
    Σ' (L6 : List (View.Piece (Elt F) S2048x512 .bf16)), Σ' (LS0 : List (View.Piece (Elt F) S3584x128 .bf16)), Σ' (LS1 : List (View.Piece (Elt F) S2048x32 .bf16)), Σ' (LT2 : List (View.Piece (Elt F) S3584x512 .bf16)), Σ' (LT3 : List (View.Piece (Elt F) S112x512 .f32)), { LT4 : List (View.Piece (Elt F) S112x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_qalora i arg2 harg2 arg3 harg3 arg4 harg4 arg5 harg5 arg6 harg6 arg7 harg7 arg8 harg8 arg9 harg9 arg10 harg10 arg11 harg11 arg12 harg12 arg13 harg13) K } := by
  refine ⟨?_, [], [], ?_, ?_, ?_, fun E K => ?run⟩
  case run =>
    simp only [cc0_qalora_eq_skeleton]; unfold cc0_qalora_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexists _; iexact HS3
    iexists _; iexact HS4

end Cert.KernelIdeal.Gen

end
-- ==== Proof.Ideal.RunC.lean ====
/- The run of the whole kernel body in case C of its two branches. -/
module

public import proofs.«01_k».proof.Proof.Ideal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3404000 in
/-- What the body's stores leave in each output's staging memref, as pieces (last first) IN CASE C (`scf.if` 0 not taken, `scf.if` 1 taken: points 37, 74, 111, 148, 185), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole) (hc0 : ¬cond0_0 i) (hc1 : cond0_1 i)
    (x0 : Vec F S2048x3584 .bf16) (x1 : Vec F S448x512 .i32) (x2 : Vec F S112x512 .bf16) (x3 : Vec F S112x128 .i32) (x4 : Vec F S112x32 .bf16) (x5 : Vec F S32x512 .bf16) (xs0 : Vec F S3584x128 .bf16) :
    Σ' (L6 : List (View.Piece (Elt F) S2048x512 .bf16)), Σ' (LS0 : List (View.Piece (Elt F) S3584x128 .bf16)), Σ' (LS1 : List (View.Piece (Elt F) S2048x32 .bf16)), Σ' (LT2 : List (View.Piece (Elt F) S3584x512 .bf16)), Σ' (LT3 : List (View.Piece (Elt F) S112x512 .f32)), { LT4 : List (View.Piece (Elt F) S112x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_qalora i arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, ?_, fun E K => ?run⟩
  case run =>
    simp only [cc0_qalora_eq_skeleton]; unfold cc0_qalora_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    isplitl [HS3]; · iexists _; iexact HS3
    iexists _; iexact HS4

end Cert.KernelIdeal.Gen

end
-- ==== Proof.Ideal.Forget.lean ====
module

public import Idealize.ShloMosaic.Lib.Pipeline
public import Idealize.ShloMosaic.Lib.Pipeline.FrameSuffix
public import proofs.«01_k».proof.Proof.Gen.KernelIdeal.Launch
public import proofs.«01_k».proof.Proof.Gen.KernelIdeal.Frame
public import proofs.«01_k».proof.Proof.Ideal.RunC

/-!
# The frame of `KernelIdeal`, the output forgotten

The window of the packed zero points overhangs its array at the last blocks, so its staging buffer holds the array's
words on the part inside and anything elsewhere.  The proof data here say so, say nothing of the output block and
nothing of the scratch buffers; that is enough for termination, unchanged arguments and quiescent counters.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero-point window's staging buffer at point `t`: the block's words on the part inside the array, `d` elsewhere. -/
def zfill (c : Dev nD) (t : Fin cfg0.N) (d : Vec F S112x128 .i32) : Vec F S112x128 .i32 :=
  (cfg0.win 3).fill (cfg0.grid.coords t) d (iblk m c 3 t)

namespace Forget

/-- The proof data: each input's buffer at its block (window 3's on the part inside the array), every scratch at
    anything, nothing of the output (its entry is never read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zfill m c t (fun _ => (0#32 : BitVec 32))
    | ⟨4, _⟩ => iblk m c 4 t
    | ⟨5, _⟩ => iblk m c 5 t
    | ⟨6, _⟩ => iblk m c 6 t
  Φ _ := Pipeline.ΦA spec0 c
  q _ := fullShare
  owed _ := 0

/-- The output window is the forgotten one. -/
def fgt : Fin cfg0.W → Bool := fun | 6 => true | _ => false

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zfill m c t (fun _ => (0#32 : BitVec 32)) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Forget

/-- Points with one block index of the zero-point window cut it alike. -/
theorem clip0_3 (t t' : Fin cfg0.N) (h : (cfg0.win 3).index t = (cfg0.win 3).index t') :
    (cfg0.win 3).clip (cfg0.grid.coords t) = (cfg0.win 3).clip (cfg0.grid.coords t') := by
  funext a
  exact congrArg (fun n => Pipeline.Clip.of n (S112x128.size a) (S112x2368.size a)) (congrFun h a)

/-- The zero-point window's staging buffer holds its block on the part inside the array, whatever proof data leave it so. -/
theorem before0_3_of {c : Dev nD} (dat : Dat τ (Elt F) Unit ℕ (UR sig nD τ) ℕ cfg0 c) (hA : dat.A 3 = V m c (Pipeline.arrRef spec0 3))
    (g : Fin cfg0.N → Vec F S112x128 .i32) (hafter : ∀ t, dat.after 3 t = zfill m c t (g t)) (t : Fin cfg0.N) (d) :
    dat.before 3 t d = zfill m c t d :=
  (dat.before_in_eq_fetched 3 rfl (fun _ => rfl) clip0_3 (fun t => by
      rw [hafter]; unfold zfill Dat.blockOf iblk; rw [(cfg0.win 3).cut_fill, hA]) t d).trans
    (by unfold Dat.fetched Dat.blockOf zfill iblk; rw [hA])

namespace Forget

theorem before0_3 (c : Dev nD) (t : Fin cfg0.N) (d) : (dats m 0 c).before 3 t d = zfill m c t d :=
  before0_3_of m (dats m 0 c) (A_eq m c 3) (fun _ => fun _ => (0#32 : BitVec 32)) (after0_3 m c) t d

/-- What the body is called with at point `t`, the windows one by one, -/
def bodyPre (c : Dev nD) (t : Fin cfg0.N) : sProp 𝕄 :=
  iprop(Pipeline.ΦA spec0 c ∗ (dats m 0 c).owesAt () t.castSucc
    ∗ (∃ d : Vec F S2048x3584 .bf16, owns (c : Thread nD τ) (ms0_0 t) fullShare (iblk m c 0 t))
    ∗ (∃ d : Vec F S448x512 .i32, owns (c : Thread nD τ) (ms0_1 t) fullShare (iblk m c 1 t))
    ∗ (∃ d : Vec F S112x512 .bf16, owns (c : Thread nD τ) (ms0_2 t) fullShare (iblk m c 2 t))
    ∗ (∃ d : Vec F S112x128 .i32, owns (c : Thread nD τ) (ms0_3 t) fullShare (zfill m c t d))
    ∗ (∃ d : Vec F S112x32 .bf16, owns (c : Thread nD τ) (ms0_4 t) fullShare (iblk m c 4 t))
    ∗ (∃ d : Vec F S32x512 .bf16, owns (c : Thread nD τ) (ms0_5 t) fullShare (iblk m c 5 t))
    ∗ (∃ X, owns (c : Thread nD τ) (ms0_6 t) fullShare X))

/-- and what it returns. -/
def bodyPost (c : Dev nD) (t : Fin cfg0.N) : sProp 𝕄 :=
  iprop(Pipeline.ΦA spec0 c ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ d : Vec F S112x128 .i32, owns (c : Thread nD τ) (ms0_3 t) fullShare (zfill m c t d))
    ∗ owns (c : Thread nD τ) (ms0_4 t) fullShare (iblk m c 4 t)
    ∗ owns (c : Thread nD τ) (ms0_5 t) fullShare (iblk m c 5 t)
    ∗ (∃ X, owns (c : Thread nD τ) (ms0_6 t) fullShare X))

set_option maxHeartbeats 14400000 in
/-- The body at a point of case A. -/
theorem sound_A (c : Dev nD) (t : Fin cfg0.N) (h0 : t.val % 222 = 0) (h1 : t.val % 37 = 0) :
    bodyPre m c t ⊢ wp frame (wpE (defs₀ (F := F)) Variants.none c none) Set.univ (bodyAt0 t) (fun _ => bodyPost m c t) := by
  unfold bodyPre bodyPost bodyAt0
  rw [PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply ((kernelRun0_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (zfill m c t d3) (iblk m c 4 t) (iblk m c 5 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%es0, HS0⟩, ⟨%es1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexists _; unfold owns; iexists _; isplitr
  swap; · iexact H6
  ipureintro; rfl

set_option maxHeartbeats 14400000 in
/-- The body at a point of case B. -/
theorem sound_B (c : Dev nD) (t : Fin cfg0.N) (h0 : ¬t.val % 222 = 0) (h1 : ¬t.val % 37 = 0) :
    bodyPre m c t ⊢ wp frame (wpE (defs₀ (F := F)) Variants.none c none) Set.univ (bodyAt0 t) (fun _ => bodyPost m c t) := by
  unfold bodyPre bodyPost bodyAt0
  rw [PhiA0_eq]
  iintro ⟨⟨⟨⟨%s0, HS0⟩, ⟨%s1, HS1⟩, HS2, HS3, HS4⟩, Hg⟩, Ho, ⟨%d0, H0⟩, ⟨%d1, H1⟩, ⟨%d2, H2⟩, ⟨%d3, H3⟩, ⟨%d4, H4⟩, ⟨%d5, H5⟩, H6⟩
  iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (zfill m c t d3) (iblk m c 4 t) (iblk m c 5 t) _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, HS0, HS1, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; iexact HS0
      isplitl [HS1]
      · iexists _; iexact HS1
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexists _; unfold owns; iexists _; isplitr
  swap; · iexact H6
  ipureintro; rfl

set_option maxHeartbeats 14400000 in
/-- The body at a point of case C. -/
theorem sound_C (c : Dev nD) (t : Fin cfg0.N) (h0 : ¬t.val % 222 = 0) (h1 : t.val % 37 = 0) :
    bodyPre m c t ⊢ wp frame (wpE (defs₀ (F := F)) Variants.none c none) Set.univ (bodyAt0 t) (fun _ => bodyPost m c t) := by
  unfold bodyPre bodyPost bodyAt0
  rw [PhiA0_eq]
  iintro ⟨⟨⟨⟨%s0, HS0⟩, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (zfill m c t d3) (iblk m c 4 t) (iblk m c 5 t) _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, HS0, ⟨%es1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  iexists _; unfold owns; iexists _; isplitr
  swap; · iexact H6
  ipureintro; rfl

/-- The body at any point: the three cases. -/
theorem sound_body (c : Dev nD) (t : Fin cfg0.N) :
    bodyPre m c t ⊢ wp frame (wpE (defs₀ (F := F)) Variants.none c none) Set.univ (bodyAt0 t) (fun _ => bodyPost m c t) := by
  by_cases h0 : t.val % 222 = 0
  · exact sound_A m c t h0 (by omega)
  · by_cases h1 : t.val % 37 = 0
    · exact sound_C m c t h0 h1
    · exact sound_B m c t h0 h1

end Forget

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

namespace Forget

/-- What the body finds is `bodyPre`. -/
theorem pre_eq (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ X, owns (c : Thread nD τ) (ms0_6 t) fullShare X)) = bodyPre (F := F) m c t := by
  simp only [before0_0, before0_1, before0_2, before0_3, before0_4, before0_5]; rfl

/-- What the body leaves, spelled by the proof data, is `bodyPost`. -/
theorem post_eq (c : Dev nD) (t : Fin cfg0.N) :
    iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ (∃ d, owns (c : Thread nD τ) (ms0_3 t) fullShare
          ((cfg0.win 3).fill (cfg0.grid.coords t) d ((cfg0.win 3).cut (cfg0.grid.coords t) ((dats m 0 c).after 3 t))))
      ∗ owns (c : Thread nD τ) (ms0_4 t) fullShare ((dats m 0 c).after 4 t)
      ∗ owns (c : Thread nD τ) (ms0_5 t) fullShare ((dats m 0 c).after 5 t)
      ∗ (∃ X, owns (c : Thread nD τ) (ms0_6 t) fullShare X)) = bodyPost (F := F) m c t := by
  rw [after0_0, after0_1, after0_2, after0_3, after0_4, after0_5]
  unfold zfill; simp only [(cfg0.win 3).cut_fill]; rfl

/-- The library's body obligation, the output forgotten. -/
theorem body_obligation (c : Dev nD) :
    BodyObligationLoose (dats (F := F) m 0 c) (defs₀ (F := F)) Variants.none () Set.univ fgt := fun t => by
  rw [bigSep_W0, bigSep_W0, defs₀_row]
  have h := sound_body m c t
  rw [← pre_eq, ← post_eq] at h
  exact triple_restated h rfl .rfl fun _ => .rfl

set_option backward.isDefEq.respectTransparency.types false in
/-- The launch: every array after the run, and every semaphore counter at zero. -/
theorem run_main_quiescent : θ_run defs (onTc (τ := τ) (main (F := F))) (s₀ m ρ)
    (fun r => (RDat.FramePostR cfg0 (fun c => (dats m 0 c).toRForget fgt) {main_v2} (V m)) r ∧ r.2.sem = fun _ => 0) :=
  Pipeline.θ_run_frame_around_T_forget (Q' := _) cfgs (dats m) (0 : Fin 1) launch0 defs₀ Variants.none fgt {main_v2} m ρ main
    (body_obligation m) (fun c => (dats m 0 c).share_full fun _ => rfl) (fun _ _ => rfl) (V0 m) [hostOps1]
    sfx_sub sfx_fresh sfx_keeps (by
      intro ops hops op hop b hb
      simp only [List.mem_cons, List.mem_nil_iff, or_false] at hops
      rcases hops with rfl
      simp only [hostOps1, List.mem_cons, List.mem_nil_iff, or_false] at hop
      rcases hop with rfl
      simp only [StableHlo.reshape_writes, Finset.mem_singleton] at hb ⊢
      exact Proc.devRef_injective _ hb)
    (hmain m Variants.none) (A_eq m) (fun _ _ => rfl) (hQ' := fun _ h => h)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      ((RDat.FramePostR.arr_in h.1 c 1 rfl).trans (A_eq m c 1)).trans (V_main_arg1 m c),
      ((RDat.FramePostR.arr_in h.1 c 2 rfl).trans (A_eq m c 2)).trans (V_main_arg2 m c),
      ((RDat.FramePostR.arr_in h.1 c 3 rfl).trans (A_eq m c 3)).trans (V_main_arg3 m c),
      ((RDat.FramePostR.arr_in h.1 c 4 rfl).trans (A_eq m c 4)).trans (V_main_arg4 m c),
      ((RDat.FramePostR.arr_in h.1 c 5 rfl).trans (A_eq m c 5)).trans (V_main_arg5 m c)⟩, h.2⟩) (run_main_quiescent m ρ)

end Forget

end Cert.KernelIdeal.Gen

end
-- ==== Proof.Words.lean ====
module

public import Idealize.ShloMosaic.Lib.Pointwise

/-!
# The four-bit fields of a word

A word packs eight codes of four bits, code `p` in bits `4 p … 4 p + 3`.  The kernel reads a weight's code by flipping
the top bit of every field, shifting and reading four bits as a signed number; it reads a zero point's code by shifting,
masking and subtracting eight.  Both are the field minus eight.
-/

@[expose] public section

namespace Cert.Words

open Idealize.ShloMosaic

/-- Field `p` of the word `w`, as a number below sixteen. -/
def nib (w : BitVec 32) (p : ℕ) : ℕ := w.toNat / 16 ^ p % 16

theorem nib_lt (w : BitVec 32) (p : ℕ) : nib w p < 16 := Nat.mod_lt _ (by norm_num)

/-- A bit of a field is the word's bit there. -/
theorem testBit_nib (w : BitVec 32) (p i : ℕ) : (nib w p).testBit i = (decide (i < 4) && w.getLsbD (4 * p + i)) := by
  unfold nib
  rw [show (16 : ℕ) ^ p = 2 ^ (4 * p) by rw [pow_mul]; norm_num, show (16 : ℕ) = 2 ^ 4 by norm_num, Nat.testBit_mod_two_pow,
    Nat.testBit_div_two_pow, BitVec.testBit_toNat, Nat.add_comm]

/-- The word shifted right by `4 p` places and masked is the field. -/
theorem shift_mask (w : BitVec 32) (p : ℕ) (hp : p < 8) :
    (w.sshiftRight (4 * p)) &&& 15#32 = BitVec.ofNat 32 (nib w p) := by
  apply BitVec.eq_of_getLsbD_eq
  intro i hi
  have h15 : (15#32 : BitVec 32).getLsbD i = decide (i < 4) := by
    have : ∀ i : Fin 32, (15#32 : BitVec 32).getLsbD i.val = decide (i.val < 4) := by decide
    exact this ⟨i, hi⟩
  rw [BitVec.getLsbD_and, h15, BitVec.getLsbD_ofNat, testBit_nib, BitVec.getLsbD_sshiftRight]
  by_cases h4 : i < 4
  · have : 4 * p + i < 32 := by omega
    have hi' : ¬ 32 ≤ i := by omega
    simp [h4, hi, hi', this]
  · simp [h4]

/-- The shifted word with every field's top bit flipped, cut to four bits. -/
theorem shift_flip (w : BitVec 32) (p : ℕ) (hp : p < 8) :
    ((w ^^^ 2290649224#32).sshiftRight (4 * p)).setWidth 4 = BitVec.ofNat 4 (nib w p) ^^^ 8#4 := by
  apply BitVec.eq_of_getLsbD_eq
  intro i hi
  have h88 : ∀ (p : Fin 8) (i : Fin 4), (2290649224#32 : BitVec 32).getLsbD (4 * p.val + i.val) = (8#4).getLsbD i.val := by decide
  have h := h88 ⟨p, hp⟩ ⟨i, hi⟩
  have : 4 * p + i < 32 := by omega
  have hi' : ¬ 32 ≤ i := by omega
  rw [BitVec.getLsbD_setWidth, BitVec.getLsbD_sshiftRight, BitVec.getLsbD_xor (x := BitVec.ofNat 4 _), BitVec.getLsbD_ofNat (n := 4), testBit_nib]
  simp only [this, if_true, BitVec.getLsbD_xor, hi, hi', decide_true, decide_false, Bool.true_and, Bool.not_false]
  rw [← h]

/-- The signed reading of a field with its top bit flipped is the field minus eight. -/
theorem toInt_flip (w : BitVec 32) (p : ℕ) (hp : p < 8) :
    (((w ^^^ 2290649224#32).sshiftRight (4 * p)).setWidth 4).toInt = (nib w p : ℤ) - 8 := by
  rw [shift_flip w p hp]
  have h : ∀ n : Fin 16, (BitVec.ofNat 4 n.val ^^^ 8#4).toInt = (n.val : ℤ) - 8 := by decide
  exact h ⟨nib w p, nib_lt w p⟩

/-- The masked field minus eight, read signed. -/
theorem toInt_mask_sub (w : BitVec 32) (p : ℕ) (hp : p < 8) :
    (((w.sshiftRight (4 * p)) &&& 15#32) - 8#32).toInt = (nib w p : ℤ) - 8 := by
  rw [shift_mask w p hp]
  have h : ∀ n : Fin 16, (BitVec.ofNat 32 n.val - 8#32).toInt = (n.val : ℤ) - 8 := by decide
  exact h ⟨nib w p, nib_lt w p⟩

/-- The masked field, read signed. -/
theorem toInt_mask (w : BitVec 32) (p : ℕ) (hp : p < 8) :
    ((w.sshiftRight (4 * p)) &&& 15#32).toInt = (nib w p : ℤ) := by
  rw [shift_mask w p hp]
  have h : ∀ n : Fin 16, (BitVec.ofNat 32 n.val).toInt = (n.val : ℤ) := by decide
  exact h ⟨nib w p, nib_lt w p⟩

/-- A shift by an amount word `4 p` is a shift by `4 p` places, on either unit. -/
theorem shrsi_eq (u : ArithUnit) (w y : BitVec 32) (p : ℕ) (hp : p < 8) (hy : y = BitVec.ofNat 32 (4 * p)) :
    IntOp.shrsi u w y = w.sshiftRight (4 * p) := by
  have hn : y.toNat = 4 * p := by rw [hy, BitVec.toNat_ofNat]; exact Nat.mod_eq_of_lt (by omega)
  unfold IntOp.shrsi
  rw [if_pos (by omega), BitVec.sshiftRight', hn]

end Cert.Words

end
-- ==== Proof.Spec.lean ====
module

public import proofs.«01_k».proof.Proof.Words

/-!
# The quantity both programs compute

Row `x` of the activations against the dequantized weights, plus the low-rank branch:

`∑ k, x k · (q k − z (k / 32)) · s (k / 32)  +  ∑ c, u c · b c`, with
`u c = (∑ g, (∑ i < 32, x (32 g + i)) · μ · a g c) · η`,

where `q k` is code `k % 8` of word `k / 8`, and `μ`, `η` are the two printed constants (1/32 and 1/2).
-/

@[expose] public section

noncomputable section

namespace Cert.Spec

open Idealize.ShloMosaic Cert.Words

/-- The dequantized weight: the code minus the zero point's code, times the scale. -/
def weight (q z : ℕ) (s : EReal) : EReal := (((q : ℤ) : ℝ) - ((z : ℤ) : ℝ) : EReal) * s

/-- Subtracting eight from both codes does not change their difference. -/
theorem shifted_sub (q z : ℕ) :
    (((((q : ℤ) - 8 : ℤ) : ℝ) : EReal) - ((((z : ℤ) - 8 : ℤ) : ℝ) : EReal)) = (((q : ℤ) : ℝ) - ((z : ℤ) : ℝ) : EReal) := by
  rw [← EReal.coe_sub, ← EReal.coe_sub]
  congr 1
  push_cast
  ring

/-- The mean factor of the low-rank branch, as printed. -/
def μ : EReal := Ideal.ofBits FTy.f32 1023410176#32
/-- The scaling of the low-rank branch, as printed. -/
def η : EReal := Ideal.ofBits FTy.f32 1056964608#32

/-- The low-rank activations of a row `x`. -/
def low (x : Fin 3584 → EReal) (a : Fin 112 → EReal) : EReal :=
  (∑ g : Fin 112, (∑ i : Fin 32, x ⟨g.val * 32 + i.val, by omega⟩) * μ * a g) * η

/-- A sum of a row against the indicator of group `g` is the sum of the group's 32 entries. -/
theorem sum_indicator (x : Fin 3584 → EReal) (g : Fin 112) :
    (∑ k : Fin 3584, x k * (if k.val / 32 = g.val then (1 : EReal) else 0)) = ∑ i : Fin 32, x ⟨g.val * 32 + i.val, by omega⟩ := by
  rw [← Equiv.sum_comp (finProdFinEquiv (m := 112) (n := 32)) (fun k : Fin 3584 => x k * (if k.val / 32 = g.val then (1 : EReal) else 0)),
    Fintype.sum_prod_type, Finset.sum_eq_single g]
  · refine Finset.sum_congr rfl fun i _ => ?_
    have h : (finProdFinEquiv (m := 112) (n := 32) (g, i)).val / 32 = g.val := by simp [finProdFinEquiv]; omega
    rw [if_pos h, mul_one]
    exact congrArg x (Fin.ext (by simp [finProdFinEquiv]; omega))
  · intro b _ hb
    refine Finset.sum_eq_zero fun i _ => ?_
    have h : ¬ (finProdFinEquiv (m := 112) (n := 32) (b, i)).val / 32 = g.val := by
      intro h
      apply hb
      apply Fin.ext
      simp [finProdFinEquiv] at h
      omega
    rw [if_neg h, mul_zero]
  · intro h; exact absurd (Finset.mem_univ g) h

/-- The reference's order of the contraction: position `p · 448 + w` of the permuted axis is entry `8 w + p`. -/
def perm : Fin 3584 ≃ Fin 3584 where
  toFun k := ⟨k.val % 448 * 8 + k.val / 448, by omega⟩
  invFun k := ⟨k.val % 8 * 448 + k.val / 8, by omega⟩
  left_inv k := Fin.ext (by dsimp only; omega)
  right_inv k := Fin.ext (by dsimp only; omega)

end Cert.Spec

end
-- ==== Proof.Ideal.Entry.lean ====
module

public import Idealize.ShloMosaic.Lib.Pointwise
public import Idealize.ShloMosaic.Lib.Routing.Words
public import proofs.«01_k».proof.Proof.Gen.KernelIdeal.Skeleton
public import proofs.«01_k».proof.Proof.Spec

/-!
# What the kernel's stores hold, element by element

Each stored value of the body, read at one index over the extended reals: the zero points of a block of 128 columns, the
dequantized weights of a group of 32 rows, the indicator of the groups, the low-rank activations and the output block.
-/

@[expose] public section

noncomputable section

namespace Cert.KernelIdeal.Gen

open Idealize.ShloMosaic Idealize.ShloMosaic.TcCoe
open Cert.Words Cert.Spec

/-- The word shift amount of a place: four times its remainder by eight. -/
theorem shift_word : ∀ n : Fin 128, IntOp.muli (IntOp.andi (BitVec.ofNat 32 n.val) 7#32) 4#32 = BitVec.ofNat 32 (4 * (n.val % 8)) := by
  decide

/-- A place shifted right by three is its quotient by eight. -/
theorem div8_word : ∀ n : Fin 128, IntOp.shrsi ArithUnit.vector (BitVec.ofNat 32 n.val) 3#32 = BitVec.ofNat 32 (n.val / 8) := by
  decide

/-- The first word of the half of the zero-point block that column block `j` uses. -/
theorem half_word (j : Fin 37) : Scalar.muli (Scalar.andi (BitVec.ofNat 32 j.val) 1#32) 64#32 = BitVec.ofNat 32 (j.val % 2 * 64) := by
  revert j; decide

/-- An index word in range is not wrapped. -/
theorem wrap_word : ∀ n : Fin 128, (Scalar.select (IntOp.cmpi CmpIPredicate.slt (BitVec.ofNat 32 n.val) 0#32)
    (IntOp.addi (BitVec.ofNat 32 n.val) 128#32) (BitVec.ofNat 32 n.val)).toNat % 128 = n.val := by
  decide

/-- One element of the dequantized weights: group payload at row `a`, column `b`. -/
theorem pay14_apply (w : Vec Ideal S4x512 .i32) (z s : Vec Ideal S1x512 .f32) (a : Fin 32) (b : Fin 512) :
    (k0_pay14 (F := Ideal) w z s) (ix2 a b)
      = (((((nib (w (ix2 ⟨a.val / 8, by omega⟩ b)) (a.val % 8) : ℤ) - 8 : ℤ) : ℝ) : EReal) - z (ix2 0 b)) * s (ix2 0 b) := by
  pointwise [k0_pay14, k0_pay13]
  have h8 : a.val % 8 < 8 := Nat.mod_lt _ (by norm_num)
  rw [shift_word ⟨a.val, by omega⟩, shrsi_eq _ _ _ _ h8 rfl]
  have := toInt_flip (w (ix2 ⟨a.val / 8, by omega⟩ b)) (a.val % 8) h8
  rw [← this]
  rfl

/-- The zero points of 128 columns, from the word block `x`, column `l` reading word `off + l / 8`: its code `l % 8` minus eight. -/
def zval (x : Vec Ideal S112x128 .i32) (off : ℕ) (hoff : off + 15 < 128) (a : Fin 112) (l : Fin 128) : EReal :=
  ((((nib (x (ix2 a ⟨off + l.val / 8, by omega⟩)) (l.val % 8) : ℤ) - 8 : ℤ) : ℝ) : EReal)

/-- The element of the zero points, from the words the body computes. -/
theorem zval_words (x : Vec Ideal S112x128 .i32) (j : Fin 37) (k : ℕ) (hk : k ≤ 48) (a : Fin 112) (l : Fin 128) (h) :
    (FloatOps.sitofp (F := Ideal) FTy.f32 (IntOp.subi (IntOp.andi (IntOp.shrsi ArithUnit.vector
      (x (ix2 a ⟨(Scalar.select (IntOp.cmpi CmpIPredicate.slt
            (IntOp.addi (Scalar.addi (Scalar.muli (Scalar.andi (BitVec.ofNat 32 j.val) 1#32) 64#32) (BitVec.ofNat 32 k))
              (IntOp.shrsi ArithUnit.vector (BitVec.ofNat 32 l.val) 3#32)) 0#32)
          (IntOp.addi (IntOp.addi (Scalar.addi (Scalar.muli (Scalar.andi (BitVec.ofNat 32 j.val) 1#32) 64#32) (BitVec.ofNat 32 k))
              (IntOp.shrsi ArithUnit.vector (BitVec.ofNat 32 l.val) 3#32)) 128#32)
          (IntOp.addi (Scalar.addi (Scalar.muli (Scalar.andi (BitVec.ofNat 32 j.val) 1#32) 64#32) (BitVec.ofNat 32 k))
              (IntOp.shrsi ArithUnit.vector (BitVec.ofNat 32 l.val) 3#32))).toNat % 128, h⟩))
      (IntOp.muli (IntOp.andi (BitVec.ofNat 32 l.val) 7#32) 4#32)) 15#32) 8#32) : EReal)
      = zval x (j.val % 2 * 64 + k) (by omega) a l := by
  have e : IntOp.addi (Scalar.addi (Scalar.muli (Scalar.andi (BitVec.ofNat 32 j.val) 1#32) 64#32) (BitVec.ofNat 32 k))
      (IntOp.shrsi ArithUnit.vector (BitVec.ofNat 32 l.val) 3#32) = BitVec.ofNat 32 (j.val % 2 * 64 + k + l.val / 8) := by
    rw [half_word, div8_word, BitVec.ofNat_add, BitVec.ofNat_add]; rfl
  have hn : j.val % 2 * 64 + k + l.val / 8 < 128 := by omega
  have e2 : (Scalar.select (IntOp.cmpi CmpIPredicate.slt (BitVec.ofNat 32 (j.val % 2 * 64 + k + l.val / 8)) 0#32)
      (IntOp.addi (BitVec.ofNat 32 (j.val % 2 * 64 + k + l.val / 8)) 128#32) (BitVec.ofNat 32 (j.val % 2 * 64 + k + l.val / 8))).toNat % 128
      = j.val % 2 * 64 + k + l.val / 8 := wrap_word ⟨_, hn⟩
  have h8 : l.val % 8 < 8 := Nat.mod_lt _ (by norm_num)
  simp only [e, e2]
  rw [shift_word l, shrsi_eq _ _ _ _ h8 rfl]
  unfold zval
  rw [← toInt_mask_sub _ _ h8]
  rfl

/-- The first block of 128 columns of zero points, -/
theorem zpay0_apply (i : grid0.Coords) (x : Vec Ideal S112x128 .i32) (a : Fin 112) (l : Fin 128) :
    (k0_pay5 (F := Ideal) (k0_pay4 (F := Ideal) i x)) (ix2 a l) = zval x ((i 1).val % 2 * 64 + 0) (by omega) a l := by
  pointwise [k0_pay4, k0_pay5]
  exact zval_words x (i 1) 0 (by omega) a l _

/-- the second, -/
theorem zpay1_apply (i : grid0.Coords) (x : Vec Ideal S112x128 .i32) (a : Fin 112) (l : Fin 128) :
    (k0_pay6 (F := Ideal) (Scalar.muli (Scalar.andi (BitVec.ofNat 32 (i 1).val) 1#32) 64#32) x (iota .tc S112x128 32 [1] iota_S112x128_d1_w32)) (ix2 a l)
      = zval x ((i 1).val % 2 * 64 + 16) (by omega) a l := by
  pointwise [k0_pay6]
  exact zval_words x (i 1) 16 (by omega) a l _

/-- the third, -/
theorem zpay2_apply (i : grid0.Coords) (x : Vec Ideal S112x128 .i32) (a : Fin 112) (l : Fin 128) :
    (k0_pay9 (F := Ideal) (k0_pay7 (F := Ideal) (Scalar.muli (Scalar.andi (BitVec.ofNat 32 (i 1).val) 1#32) 64#32) x (iota .tc S112x128 32 [1] iota_S112x128_d1_w32))
      (k0_pay8 (iota .tc S112x128 32 [1] iota_S112x128_d1_w32)) 4#32) (ix2 a l)
      = zval x ((i 1).val % 2 * 64 + 32) (by omega) a l := by
  pointwise [k0_pay7, k0_pay8, k0_pay9]
  exact zval_words x (i 1) 32 (by omega) a l _

/-- and the fourth. -/
theorem zpay3_apply (i : grid0.Coords) (x : Vec Ideal S112x128 .i32) (a : Fin 112) (l : Fin 128) :
    (k0_pay10 (F := Ideal) (Scalar.muli (Scalar.andi (BitVec.ofNat 32 (i 1).val) 1#32) 64#32) x (iota .tc S112x128 32 [1] iota_S112x128_d1_w32)) (ix2 a l)
      = zval x ((i 1).val % 2 * 64 + 48) (by omega) a l := by
  pointwise [k0_pay10]
  exact zval_words x (i 1) 48 (by omega) a l _

/-- The scales are stored as they are. -/
theorem spay_apply (x : Vec Ideal S112x512 .bf16) (a : Fin 112) (b : Fin 512) :
    (k0_pay12 (F := Ideal) (k0_pay11 (F := Ideal) x)) (ix2 a b) = x (ix2 a b) := by
  pointwise [k0_pay11, k0_pay12]

/-- The quotient by 32 as the body computes it: toward zero, less one where the signs differ and something remains. -/
theorem div32_word (a : ℕ) (ha : a < 3584) :
    Scalar.select
      (IntOp.andi
        (IntOp.cmpi CmpIPredicate.ne
          (IntOp.subi (BitVec.setWidth 32 (IntOp.cmpi CmpIPredicate.sgt (BitVec.ofNat 32 a) 0#32))
            (BitVec.setWidth 32 (IntOp.cmpi CmpIPredicate.slt (BitVec.ofNat 32 a) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 a) 32#32) 0#32))
      (IntOp.subi (IntOp.divsi ArithUnit.vector (BitVec.ofNat 32 a) 32#32) 1#32)
      (IntOp.divsi ArithUnit.vector (BitVec.ofNat 32 a) 32#32) = BitVec.ofNat 32 (a / 32) := by
  rcases Nat.eq_zero_or_pos a with rfl | h0
  · decide
  · have hi : (BitVec.ofNat 32 a).toInt = a := by
      rw [BitVec.toInt_ofNat']
      exact Int.bmod_eq_of_le (by omega) (by omega)
    have hg : IntOp.cmpi CmpIPredicate.sgt (BitVec.ofNat 32 a) 0#32 = 1#1 := by
      simp only [IntOp.cmpi, BitVec.slt, hi]
      simp [h0]
    have hl : IntOp.cmpi CmpIPredicate.slt (BitVec.ofNat 32 a) 0#32 = 0#1 := by
      have hn : ¬ ((a : ℤ) < (0#32 : BitVec 32).toInt) := by simp
      simp only [IntOp.cmpi, BitVec.slt, hi, hn]
      rfl
    have hd : IntOp.divsi ArithUnit.vector (BitVec.ofNat 32 a) 32#32 = BitVec.ofNat 32 (a / 32) :=
      Routing.divsi_word ArithUnit.vector (by omega) (by norm_num) (by norm_num)
    have hc : IntOp.cmpi CmpIPredicate.ne (IntOp.subi (BitVec.setWidth 32 1#1) (BitVec.setWidth 32 0#1))
        (Scalar.subi (Scalar.extui (Scalar.cmpi CmpIPredicate.sgt 32#32 0#32))
          (Scalar.extui (Scalar.cmpi CmpIPredicate.slt 32#32 0#32))) = 0#1 := by decide
    rw [hg, hl, hc, hd]
    simp [IntOp.andi, Scalar.select]

/-- The indicator of the groups: row `a` belongs to group `a / 32`. -/
theorem pay2_apply (a : Fin 3584) (b : Fin 128) :
    (k0_pay2 (F := Ideal)) (ix2 a b) = if a.val / 32 = b.val then 1 else 0 := by
  pointwise [k0_pay2]
  rw [div32_word a.val a.isLt]
  by_cases h : a.val / 32 = b.val
  · rw [h, if_pos rfl]
    simp [IntOp.cmpi]
    rfl
  · rw [if_neg h]
    have : ¬ (BitVec.ofNat 32 (a.val / 32) = BitVec.ofNat 32 b.val) := by
      intro e
      apply h
      have := congrArg BitVec.toNat e
      simp only [BitVec.toNat_ofNat] at this
      omega
    have e : IntOp.cmpi CmpIPredicate.eq (BitVec.ofNat 32 (a.val / 32)) (BitVec.ofNat 32 b.val) = 0#1 := by
      simp only [IntOp.cmpi, beq_eq_false_iff_ne.mpr this]
      rfl
    rw [e]
    rfl

/-- The low-rank activations of a block of rows, from the indicator of the groups. -/
theorem pay3_apply (x : Vec Ideal S2048x3584 .bf16) (p : Vec Ideal S3584x128 .bf16) (la : Vec Ideal S112x32 .bf16)
    (hp : ∀ (a : Fin 3584) (b : Fin 128), p (ix2 a b) = if a.val / 32 = b.val then (1 : EReal) else 0) (a : Fin 2048) (b : Fin 32) :
    (k0_pay3 (F := Ideal) x p la) (ix2 a b) = low (fun k => x (ix2 a k)) (fun g => la (ix2 g b)) := by
  pointwise [k0_pay3]
  unfold low
  refine congrArg (· * η) (Finset.sum_congr rfl fun g _ => ?_)
  simp only [hp]
  rw [sum_indicator (fun k => x (ix2 a k)) g]
  rfl

/-- The output block: the rows against the weights, plus the low-rank activations against the low-rank weights. -/
theorem pay1_apply (x : Vec Ideal S2048x3584 .bf16) (w : Vec Ideal S3584x512 .bf16) (u : Vec Ideal S2048x32 .bf16) (lb : Vec Ideal S32x512 .bf16)
    (a : Fin 2048) (b : Fin 512) :
    (k0_pay1 (F := Ideal) (k0_pay204 x w) u lb) (ix2 a b) = (∑ k, x (ix2 a k) * w (ix2 k b)) + ∑ k, u (ix2 a k) * lb (ix2 k b) := by
  pointwise [k0_pay1, k0_pay204]

end Cert.KernelIdeal.Gen

end
-- ==== Proof.Ideal.ReadBack.lean ====
module

public import Idealize.ShloMosaic.Lib.Pipeline.ReadBack
public import Idealize.ShloMosaic.Lib.WholeRead
public import Idealize.ShloMosaic.Lib.Pipeline.ValueKit
public import proofs.«01_k».proof.Proof.Gen.KernelIdeal.Launch
public import proofs.«01_k».proof.Proof.Ideal.Entry

/-!
# The scratch buffers read back

The body stores the zero points in four column blocks and the weights in 112 groups of 32 rows, and loads both again.
Whatever list of stores it is, if each stored value is the block of one function, the load reads that function.
-/

@[expose] public section

set_option maxRecDepth 16384

noncomputable section

namespace Cert.KernelIdeal.Gen

open Idealize.ShloMosaic Idealize.ShloMosaic.TcCoe Idealize.ShloMosaic.Tactic
open Cert.Words Cert.Spec

theorem lt0 {n m : ℕ} (y : (⟨2, ![n, m]⟩ : Shape).Idx) : (y 0).val < n := (y 0).isLt

theorem lt1 {n m : ℕ} (y : (⟨2, ![n, m]⟩ : Shape).Idx) : (y 1).val < m := (y 1).isLt

/-- The zero points of a block of 512 columns, from the block of 128 words: column `o` reads word `64 (j % 2) + o / 8`. -/
def zmat (i : grid0.Coords) (x3 : Vec Ideal S112x128 .i32) : Vec Ideal S112x512 .f32 := fun y =>
  ((((nib (x3 (ix2 (y 0) ⟨(i 1).val % 2 * 64 + (y 1).val / 8, by have := lt1 y; omega⟩)) ((y 1).val % 8) : ℤ) - 8 : ℤ) : ℝ) : EReal)

/-- The dequantized weights of a block of 512 columns. -/
def wmat (i : grid0.Coords) (x1 : Vec Ideal S448x512 .i32) (x2 : Vec Ideal S112x512 .bf16) (x3 : Vec Ideal S112x128 .i32) :
    Vec Ideal S3584x512 .bf16 := fun y =>
  weight (nib (x1 (ix2 ⟨(y 0).val / 8, by have := lt0 y; omega⟩ (y 1))) ((y 0).val % 8))
    (nib (x3 (ix2 ⟨(y 0).val / 32, by have := lt0 y; omega⟩ ⟨(i 1).val % 2 * 64 + (y 1).val / 8, by have := lt1 y; omega⟩)) ((y 1).val % 8))
    (x2 (ix2 ⟨(y 0).val / 32, by have := lt0 y; omega⟩ (y 1)))

/-- Stores that are blocks of `G` and cover the buffer leave `G`. -/
theorem canon_eq_of_piecesOf {s : Shape} {e : EltTy} (G : s.Idx → Elt Ideal e) (L : List (View.Piece (Elt Ideal) s e))
    (h : View.PiecesOf G L) (hc : ∀ y : s.Idx, ∃ p ∈ L, y ∈ p.1.set) : View.canon L = G :=
  funext fun y => View.canon_apply_of_pieces G L h.mem y (hc y)

/-- A row and a column placed by a rectangle of unit stride. -/
theorem emb2 {n m p q : ℕ} (o0 o1 : ℕ) (inb : ∀ a, (![o0, o1] : Fin 2 → ℕ) a + (⟨2, ![p, q]⟩ : Shape).size a ≤ (⟨2, ![n, m]⟩ : Shape).size a)
    (a : Fin p) (b : Fin q) (h0 : o0 + a.val < n) (h1 : o1 + b.val < m) :
    (Rect.unit (s := ⟨2, ![n, m]⟩) ![o0, o1] (⟨2, ![p, q]⟩ : Shape).size inb).emb (ix2 a b) = ix2 ⟨o0 + a.val, h0⟩ ⟨o1 + b.val, h1⟩ := by
  funext k
  refine Fin.ext ((ValueKit.rect_emb_unit_val _ _ _ _ _).trans ?_)
  match k with
  | ⟨0, _⟩ => rfl
  | ⟨1, _⟩ => rfl

/-- The same for the rectangle a load goes through. -/
theorem load2 {n m p q : ℕ} (o0 o1 : ℕ) (inb : ∀ a, (![o0, o1] : Fin 2 → ℕ) a + (⟨2, ![p, q]⟩ : Shape).size a ≤ (⟨2, ![n, m]⟩ : Shape).size a)
    (a : Fin p) (b : Fin q) (h0 : o0 + a.val < n) (h1 : o1 + b.val < m) :
    (Rect.unit (s := ⟨2, ![n, m]⟩) ![o0, o1] (⟨2, ![p, q]⟩ : Shape).size inb).toLoadRect.idx (ix2 a b) = ix2 ⟨o0 + a.val, h0⟩ ⟨o1 + b.val, h1⟩ :=
  emb2 o0 o1 inb a b h0 h1

/-- A load of a whole buffer is its contents. -/
theorem load_whole {n m : ℕ} {e : EltTy} (v : Memref sig .tc .vmem ⟨2, ![n, m]⟩ e) (hv : v.IsWhole)
    (inb : ∀ a, (![0, 0] : Fin 2 → ℕ) a + (⟨2, ![n, m]⟩ : Shape).size a ≤ (⟨2, ![n, m]⟩ : Shape).size a) (X : Vec Ideal ⟨2, ![n, m]⟩ e) :
    View.readAt (Elt Ideal) v.view (Rect.unit (s := ⟨2, ![n, m]⟩) ![0, 0] (⟨2, ![n, m]⟩ : Shape).size inb).toLoadRect (hv.unread X) = X := by
  funext x
  obtain ⟨a, b, rfl⟩ : ∃ (a : Fin n) (b : Fin m), x = ix2 a b := ⟨x 0, x 1, eq_ix2 x⟩
  refine (hv.readAt_unread X _ _).trans (congrArg X ((load2 0 0 inb a b (by omega) (by omega)).trans ?_))
  exact congrArg₂ ix2 (Fin.ext (Nat.zero_add _)) (Fin.ext (Nat.zero_add _))

/-- A load of the whole buffer after stores that left `G` is `G`. -/
theorem readCov_whole {n m : ℕ} {e : EltTy} (v : Memref sig .tc .vmem ⟨2, ![n, m]⟩ e) (L : List (View.Piece (Elt Ideal) ⟨2, ![n, m]⟩ e))
    (inb : ∀ a, (![0, 0] : Fin 2 → ℕ) a + (⟨2, ![n, m]⟩ : Shape).size a ≤ (⟨2, ![n, m]⟩ : Shape).size a) (G : Vec Ideal ⟨2, ![n, m]⟩ e)
    (hL : View.canon L = G) :
    v.view.readCov L (Rect.unit (s := ⟨2, ![n, m]⟩) ![0, 0] (⟨2, ![n, m]⟩ : Shape).size inb).toLoadRect = G := by
  rw [View.readCov_eq_canon', hL]
  funext x
  obtain ⟨a, b, rfl⟩ : ∃ (a : Fin n) (b : Fin m), x = ix2 a b := ⟨x 0, x 1, eq_ix2 x⟩
  refine congrArg G ((load2 0 0 inb a b (by omega) (by omega)).trans ?_)
  exact congrArg₂ ix2 (Fin.ext (Nat.zero_add _)) (Fin.ext (Nat.zero_add _))

/-- One store of the whole buffer leaves what it stored. -/
theorem canon_whole {n m : ℕ} {e : EltTy}
    (inb : ∀ a, (![0, 0] : Fin 2 → ℕ) a + (⟨2, ![n, m]⟩ : Shape).size a ≤ (⟨2, ![n, m]⟩ : Shape).size a) (p : Vec Ideal ⟨2, ![n, m]⟩ e) :
    View.canon (Val := Elt Ideal) [⟨Rect.unit (s := ⟨2, ![n, m]⟩) ![0, 0] (⟨2, ![n, m]⟩ : Shape).size inb, p⟩] = p := by
  have he : ∀ x : (⟨2, ![n, m]⟩ : Shape).Idx, (Rect.unit (s := ⟨2, ![n, m]⟩) ![0, 0] (⟨2, ![n, m]⟩ : Shape).size inb).emb x = x := fun x => by
    obtain ⟨a, b, rfl⟩ : ∃ (a : Fin n) (b : Fin m), x = ix2 a b := ⟨x 0, x 1, eq_ix2 x⟩
    exact (emb2 0 0 inb a b (by omega) (by omega)).trans (congrArg₂ ix2 (Fin.ext (Nat.zero_add _)) (Fin.ext (Nat.zero_add _)))
  refine canon_eq_of_piecesOf _ _ ⟨fun x => congrArg p (he x).symm, trivial⟩ fun y => ⟨_, List.mem_singleton_self _, ?_⟩
  have hm := (Rect.unit (s := ⟨2, ![n, m]⟩) ![0, 0] (⟨2, ![n, m]⟩ : Shape).size inb).idx_mem y
  exact (show _ = y from he y) ▸ hm

/-- A column block of the zero points: a payload that reads `zval` is the block of `zmat` there. -/
theorem zpiece (i : grid0.Coords) (x3 : Vec Ideal S112x128 .i32) (k off : ℕ) (hk : k ≤ 48) (ho : off = 8 * k)
    (inb : ∀ a, (![0, off] : Fin 2 → ℕ) a + S112x128.size a ≤ S112x512.size a) (p : Vec Ideal S112x128 .f32)
    (hp : ∀ a l, p (ix2 a l) = zval x3 ((i 1).val % 2 * 64 + k) (by omega) a l) (x : S112x128.Idx) :
    p x = zmat i x3 ((Rect.unit (s := S112x512) ![0, off] S112x128.size inb).emb x) := by
  obtain ⟨a, l, rfl⟩ : ∃ (a : Fin 112) (l : Fin 128), x = ix2 a l := ⟨x 0, x 1, eq_ix2 x⟩
  rw [hp, emb2 0 off inb a l (by omega) (by omega)]
  unfold zval zmat
  have ew : (⟨(i 1).val % 2 * 64 + k + l.val / 8, by omega⟩ : Fin 128) = ⟨(i 1).val % 2 * 64 + (off + l.val) / 8, by omega⟩ :=
    Fin.ext (by dsimp only; omega)
  have em : (off + l.val) % 8 = l.val % 8 := by omega
  have ea : (⟨0 + a.val, by omega⟩ : Fin 112) = a := Fin.ext (by simp)
  simp only [ix2_0, ix2_1, em, ea, ew]

/-- A group of the weights: the payload stored at rows `off … off + 31` is the block of `wmat` there. -/
theorem wpiece (i : grid0.Coords) (x1 : Vec Ideal S448x512 .i32) (x2 : Vec Ideal S112x512 .bf16) (x3 : Vec Ideal S112x128 .i32)
    (arg3 : Memref sig .tc .vmem S448x512 .i32) (harg3 : arg3.IsWhole)
    (arg12 arg13 : Memref sig .tc .vmem S112x512 .f32) (L3 L4 : List (View.Piece (Elt Ideal) S112x512 .f32))
    (hL3 : View.canon L3 = zmat i x3) (hL4 : View.canon L4 = x2) (off o3 o1 : ℕ) (ho : off % 32 = 0) (hlt : off / 32 < 112)
    (h3 : o3 = off / 8) (h1 : o1 = off / 32)
    (inb : ∀ a, (![off, 0] : Fin 2 → ℕ) a + S32x512.size a ≤ S3584x512.size a)
    (inb3 : ∀ a, (![o3, 0] : Fin 2 → ℕ) a + S4x512.size a ≤ S448x512.size a)
    (inb1 : ∀ a, (![o1, 0] : Fin 2 → ℕ) a + S1x512.size a ≤ S112x512.size a)
    (p : Vec Ideal S32x512 .bf16)
    (hp : p = k0_pay14 (View.readAt (Elt Ideal) arg3.view (Rect.unit (s := S448x512) ![o3, 0] S4x512.size inb3).toLoadRect (harg3.unread x1))
      (arg12.view.readCov L3 (Rect.unit (s := S112x512) ![o1, 0] S1x512.size inb1).toLoadRect)
      (arg13.view.readCov L4 (Rect.unit (s := S112x512) ![o1, 0] S1x512.size inb1).toLoadRect))
    (x : S32x512.Idx) :
    p x = wmat i x1 x2 x3 ((Rect.unit (s := S3584x512) ![off, 0] S32x512.size inb).emb x) := by
  subst h3 h1
  obtain ⟨a, b, rfl⟩ : ∃ (a : Fin 32) (b : Fin 512), x = ix2 a b := ⟨x 0, x 1, eq_ix2 x⟩
  have e0 : (⟨0 + b.val, by omega⟩ : Fin 512) = b := Fin.ext (by simp)
  have q3 : (Rect.unit (s := S448x512) ![off / 8, 0] S4x512.size inb3).toLoadRect.idx (ix2 (n0 := 4) (n1 := 512) ⟨a.val / 8, by omega⟩ b)
      = ix2 ⟨(off + a.val) / 8, by omega⟩ b :=
    (load2 (off / 8) 0 inb3 ⟨a.val / 8, by omega⟩ b (by show off / 8 + a.val / 8 < 448; omega) (by omega)).trans
      (congrArg₂ ix2 (Fin.ext (by show off / 8 + a.val / 8 = (off + a.val) / 8; omega)) e0)
  have q1 : (Rect.unit (s := S112x512) ![off / 32, 0] S1x512.size inb1).toLoadRect.idx (ix2 (n0 := 1) (n1 := 512) 0 b)
      = ix2 ⟨(off + a.val) / 32, by omega⟩ b :=
    (load2 (off / 32) 0 inb1 0 b (by show off / 32 + 0 < 112; omega) (by omega)).trans
      (congrArg₂ ix2 (Fin.ext (by show off / 32 + 0 = (off + a.val) / 32; omega)) e0)
  have r3 : View.readAt (Elt Ideal) arg3.view (Rect.unit (s := S448x512) ![off / 8, 0] S4x512.size inb3).toLoadRect (harg3.unread x1)
      (ix2 (n0 := 4) (n1 := 512) ⟨a.val / 8, by omega⟩ b) = x1 (ix2 ⟨(off + a.val) / 8, by omega⟩ b) :=
    (harg3.readAt_unread x1 _ _).trans (congrArg x1 q3)
  have rz : arg12.view.readCov L3 (Rect.unit (s := S112x512) ![off / 32, 0] S1x512.size inb1).toLoadRect (ix2 (n0 := 1) (n1 := 512) 0 b)
      = zmat i x3 (ix2 ⟨(off + a.val) / 32, by omega⟩ b) := by
    rw [View.readCov_eq_canon', hL3]; exact congrArg (zmat i x3) q1
  have rs : arg13.view.readCov L4 (Rect.unit (s := S112x512) ![off / 32, 0] S1x512.size inb1).toLoadRect (ix2 (n0 := 1) (n1 := 512) 0 b)
      = x2 (ix2 ⟨(off + a.val) / 32, by omega⟩ b) := by
    rw [View.readCov_eq_canon', hL4]; exact congrArg x2 q1
  subst hp
  rw [pay14_apply, r3, rz, rs]
  refine Eq.trans ?_ (congrArg (wmat i x1 x2 x3) (emb2 off 0 inb a b (by omega) (by omega)).symm)
  unfold zmat wmat weight
  simp only [ix2_0, ix2_1, e0]
  rw [show (off + a.val) % 8 = a.val % 8 by omega, ← shifted_sub]

end Cert.KernelIdeal.Gen

end
-- ==== Proof.Ideal.Stores.lean ====
module

public import proofs.«01_k».proof.Proof.Ideal.ReadBack
public import proofs.«01_k».proof.Proof.Ideal.RunA
public import proofs.«01_k».proof.Proof.Ideal.RunB
public import proofs.«01_k».proof.Proof.Ideal.RunC

/-!
# What the body's stores leave, in the three cases of its two branches

The zero points, the scales and the weights of a block do not depend on the case; the lists are the same ones under other names.
-/

@[expose] public section

set_option maxRecDepth 16384

noncomputable section

namespace Cert.KernelIdeal.Gen

open Idealize.ShloMosaic Idealize.ShloMosaic.TcCoe Idealize.ShloMosaic.Tactic
open Cert.Words Cert.Spec

theorem zlist_B (c : Dev nD) (i : grid0.Coords) (arg5 : Memref sig .tc .vmem S112x128 .i32) (harg5 : arg5.IsWhole) (x3 : Vec Ideal S112x128 .i32) :
    View.canon (kernelRun0_B.sl.HS3_4 (F := Ideal) c i arg5 harg5 x3) = zmat i x3 := by
  have hl := load_whole arg5 harg5 inb_S112x128_S112x128_0_0 x3
  refine canon_eq_of_piecesOf _ _ ?_ (View.cover_of_tiledL _ S112x128.size (by sl_kernel_rfl))
  refine ⟨zpiece i x3 48 384 (by norm_num) rfl inb_S112x512_S112x128_0_384 _ fun a l => ?_, zpiece i x3 32 256 (by norm_num) rfl inb_S112x512_S112x128_0_256 _ fun a l => ?_,
    zpiece i x3 16 128 (by norm_num) rfl inb_S112x512_S112x128_0_128 _ fun a l => ?_, zpiece i x3 0 0 (by norm_num) rfl inb_S112x512_S112x128_0_0 _ fun a l => ?_, trivial⟩
  · exact (congrFun (congrArg (fun v => k0_pay10 (F := Ideal) _ v _) hl) _).trans (zpay3_apply i x3 a l)
  · exact (congrFun (congrArg (fun v => k0_pay9 (F := Ideal) (k0_pay7 (F := Ideal) _ v _) _ _) hl) _).trans (zpay2_apply i x3 a l)
  · exact (congrFun (congrArg (fun v => k0_pay6 (F := Ideal) _ v _) hl) _).trans (zpay1_apply i x3 a l)
  · exact (congrFun (congrArg (fun v => k0_pay5 (F := Ideal) (k0_pay4 (F := Ideal) i v)) hl) _).trans (zpay0_apply i x3 a l)

theorem slist_B (c : Dev nD) (arg4 : Memref sig .tc .vmem S112x512 .bf16) (harg4 : arg4.IsWhole) (x2 : Vec Ideal S112x512 .bf16) :
    View.canon (kernelRun0_B.sl.HS4_1 (F := Ideal) c arg4 harg4 x2) = x2 := by
  have hl := load_whole arg4 harg4 inb_S112x512_S112x512_0_0 x2
  refine (canon_whole inb_S112x512_S112x512_0_0 _).trans ?_
  funext y
  obtain ⟨a, b, rfl⟩ : ∃ (a : Fin 112) (b : Fin 512), y = ix2 a b := ⟨y 0, y 1, eq_ix2 y⟩
  exact (congrFun (congrArg (fun v => k0_pay12 (F := Ideal) (k0_pay11 (F := Ideal) v)) hl) _).trans (spay_apply x2 a b)

theorem wlist_B (c : Dev nD) (i : grid0.Coords) (arg3 : Memref sig .tc .vmem S448x512 .i32) (harg3 : arg3.IsWhole) (arg4 : Memref sig .tc .vmem S112x512 .bf16) (harg4 : arg4.IsWhole)
    (arg5 : Memref sig .tc .vmem S112x128 .i32) (harg5 : arg5.IsWhole) (arg12 arg13 : Memref sig .tc .vmem S112x512 .f32)
    (x1 : Vec Ideal S448x512 .i32) (x2 : Vec Ideal S112x512 .bf16) (x3 : Vec Ideal S112x128 .i32) :
    View.canon (kernelRun0_B.sl.HS2_112 (F := Ideal) c i arg3 harg3 arg4 harg4 arg5 harg5 arg12 arg13 x1 x2 x3) = wmat i x1 x2 x3 := by
  refine canon_eq_of_piecesOf _ _ ?_ (View.cover_of_tiledL _ S32x512.size (by sl_kernel_rfl))
  have w := wpiece i x1 x2 x3 arg3 harg3 arg12 arg13 _ _ (zlist_B c i arg5 harg5 x3) (slist_B c arg4 harg4 x2)
  exact ⟨w 3552 444 111 (by norm_num) (by norm_num) rfl rfl inb_S3584x512_S32x512_3552_0 inb_S448x512_S4x512_444_0 inb_S112x512_S1x512_111_0 _ rfl,
    w 3520 440 110 (by norm_num) (by norm_num) rfl rfl inb_S3584x512_S32x512_3520_0 inb_S448x512_S4x512_440_0 inb_S112x512_S1x512_110_0 _ rfl,
    w 3488 436 109 (by norm_num) (by norm_num) rfl rfl inb_S3584x512_S32x512_3488_0 inb_S448x512_S4x512_436_0 inb_S112x512_S1x512_109_0 _ rfl,
    w 3456 432 108 (by norm_num) (by norm_num) rfl rfl inb_S3584x512_S32x512_3456_0 inb_S448x512_S4x512_432_0 inb_S112x512_S1x512_108_0 _ rfl,
    w 3424 428 107 (by norm_num) (by norm_num) rfl rfl inb_S3584x512_S32x512_3424_0 inb_S448x512_S4x512_428_0 inb_S112x512_S1x512_107_0 _ rfl,
    w 3392 424 106 (by norm_num) (by norm_num) rfl rfl inb_S3584x512_S32x512_3392_0 inb_S448x512_S4x512_424_0 inb_S112x512_S1x512_106_0 _ rfl,
    w 3360 420 105 (by norm_num) (by norm_num) rfl rfl inb_S3584x512_S32x512_3360_0 inb_S448x512_S4x512_420_0 inb_S112x512_S1x512_105_0 _ rfl,
    w 3328 416 104 (by norm_num) (by norm_num) rfl rfl inb_S3584x512_S32x512_3328_0 inb_S448x512_S4x512_416_0 inb_S112x512_S1x512_104_0 _ rfl,
    w 3296 412 103 (by norm_num) (by norm_num) rfl rfl inb_S3584x512_S32x512_3296_0 inb_S448x512_S4x512_412_0 inb_S112x512_S1x512_103_0 _ rfl,
    w 3264 408 102 (by norm_num) (by norm_num) rfl rfl inb_S3584x512_S32x512_3264_0 inb_S448x512_S4x512_408_0 inb_S112x512_S1x512_102_0 _ rfl,
    w 3232 404 101 (by norm_num) (by norm_num) rfl rfl inb_S3584x512_S32x512_3232_0 inb_S448x512_S4x512_404_0 inb_S112x512_S1x512_101_0 _ rfl,
    w 3200 400 100 (by norm_num) (by norm_num) rfl rfl inb_S3584x512_S32x512_3200_0 inb_S448x512_S4x512_400_0 inb_S112x512_S1x512_100_0 _ rfl,
    w 3168 396 99 (by norm_num) (by norm_num) rfl rfl inb_S3584x512_S32x512_3168_0 inb_S448x512_S4x512_396_0 inb_S112x512_S1x512_99_0 _ rfl,
    w 3136 392 98 (by norm_num) (by norm_num) rfl rfl inb_S3584x512_S32x512_3136_0 inb_S448x512_S4x512_392_0 inb_S112x512_S1x512_98_0 _ rfl,
    w 3104 388 97 (by norm_num) (by norm_num) rfl rfl inb_S3584x512_S32x512_3104_0 inb_S448x512_S4x512_388_0 inb_S112x512_S1x512_97_0 _ rfl,
    w 3072 384 96 (by norm_num) (by norm_num) rfl rfl inb_S3584x512_S32x512_3072_0 inb_S448x512_S4x512_384_0 inb_S112x512_S1x512_96_0 _ rfl,
    w 3040 380 95 (by norm_num) (by norm_num) rfl rfl inb_S3584x512_S32x512_3040_0 inb_S448x512_S4x512_380_0 inb_S112x512_S1x512_95_0 _ rfl,
    w 3008 376 94 (by norm_num) (by norm_num) rfl rfl inb_S3584x512_S32x512_3008_0 inb_S448x512_S4x512_376_0 inb_S112x512_S1x512_94_0 _ rfl,
    w 2976 372 93 (by norm_num) (by norm_num) rfl rfl inb_S3584x512_S32x512_2976_0 inb_S448x512_S4x512_372_0 inb_S112x512_S1x512_93_0 _ rfl,
    w 2944 368 92 (by norm_num) (by norm_num) rfl rfl inb_S3584x512_S32x512_2944_0 inb_S448x512_S4x512_368_0 inb_S112x512_S1x512_92_0 _ rfl,
    w 2912 364 91 (by norm_num) (by norm_num) rfl rfl inb_S3584x512_S32x512_2912_0 inb_S448x512_S4x512_364_0 inb_S112x512_S1x512_91_0 _ rfl,
    w 2880 360 90 (by norm_num) (by norm_num) rfl rfl inb_S3584x512_S32x512_2880_0 inb_S448x512_S4x512_360_0 inb_S112x512_S1x512_90_0 _ rfl,
    w 2848 356 89 (by norm_num) (by norm_num) rfl rfl inb_S3584x512_S32x512_2848_0 inb_S448x512_S4x512_356_0 inb_S112x512_S1x512_89_0 _ rfl,
    w 2816 352 88 (by norm_num) (by norm_num) rfl rfl inb_S3584x512_S32x512_2816_0 inb_S448x512_S4x512_352_0 inb_S112x512_S1x512_88_0 _ rfl,
    w 2784 348 87 (by norm_num) (by norm_num) rfl rfl inb_S3584x512_S32x512_2784_0 inb_S448x512_S4x512_348_0 inb_S112x512_S1x512_87_0 _ rfl,
    w 2752 344 86 (by norm_num) (by norm_num) rfl rfl inb_S3584x512_S32x512_2752_0 inb_S448x512_S4x512_344_0 inb_S112x512_S1x512_86_0 _ rfl,
    w 2720 340 85 (by norm_num) (by norm_num) rfl rfl inb_S3584x512_S32x512_2720_0 inb_S448x512_S4x512_340_0 inb_S112x512_S1x512_85_0 _ rfl,
    w 2688 336 84 (by norm_num) (by norm_num) rfl rfl inb_S3584x512_S32x512_2688_0 inb_S448x512_S4x512_336_0 inb_S112x512_S1x512_84_0 _ rfl,
    w 2656 332 83 (by norm_num) (by norm_num) rfl rfl inb_S3584x512_S32x512_2656_0 inb_S448x512_S4x512_332_0 inb_S112x512_S1x512_83_0 _ rfl,
    w 2624 328 82 (by norm_num) (by norm_num) rfl rfl inb_S3584x512_S32x512_2624_0 inb_S448x512_S4x512_328_0 inb_S112x512_S1x512_82_0 _ rfl,
    w 2592 324 81 (by norm_num) (by norm_num) rfl rfl inb_S3584x512_S32x512_2592_0 inb_S448x512_S4x512_324_0 inb_S112x512_S1x512_81_0 _ rfl,
    w 2560 320 80 (by norm_num) (by norm_num) rfl rfl inb_S3584x512_S32x512_2560_0 inb_S448x512_S4x512_320_0 inb_S112x512_S1x512_80_0 _ rfl,
    w 2528 316 79 (by norm_num) (by norm_num) rfl rfl inb_S3584x512_S32x512_2528_0 inb_S448x512_S4x512_316_0 inb_S112x512_S1x512_79_0 _ rfl,
    w 2496 312 78 (by norm_num) (by norm_num) rfl rfl inb_S3584x512_S32x512_2496_0 inb_S448x512_S4x512_312_0 inb_S112x512_S1x512_78_0 _ rfl,
    w 2464 308 77 (by norm_num) (by norm_num) rfl rfl inb_S3584x512_S32x512_2464_0 inb_S448x512_S4x512_308_0 inb_S112x512_S1x512_77_0 _ rfl,
    w 2432 304 76 (by norm_num) (by norm_num) rfl rfl inb_S3584x512_S32x512_2432_0 inb_S448x512_S4x512_304_0 inb_S112x512_S1x512_76_0 _ rfl,
    w 2400 300 75 (by norm_num) (by norm_num) rfl rfl inb_S3584x512_S32x512_2400_0 inb_S448x512_S4x512_300_0 inb_S112x512_S1x512_75_0 _ rfl,
    w 2368 296 74 (by norm_num) (by norm_num) rfl rfl inb_S3584x512_S32x512_2368_0 inb_S448x512_S4x512_296_0 inb_S112x512_S1x512_74_0 _ rfl,
    w 2336 292 73 (by norm_num) (by norm_num) rfl rfl inb_S3584x512_S32x512_2336_0 inb_S448x512_S4x512_292_0 inb_S112x512_S1x512_73_0 _ rfl,
    w 2304 288 72 (by norm_num) (by norm_num) rfl rfl inb_S3584x512_S32x512_2304_0 inb_S448x512_S4x512_288_0 inb_S112x512_S1x512_72_0 _ rfl,
    w 2272 284 71 (by norm_num) (by norm_num) rfl rfl inb_S3584x512_S32x512_2272_0 inb_S448x512_S4x512_284_0 inb_S112x512_S1x512_71_0 _ rfl,
    w 2240 280 70 (by norm_num) (by norm_num) rfl rfl inb_S3584x512_S32x512_2240_0 inb_S448x512_S4x512_280_0 inb_S112x512_S1x512_70_0 _ rfl,
    w 2208 276 69 (by norm_num) (by norm_num) rfl rfl inb_S3584x512_S32x512_2208_0 inb_S448x512_S4x512_276_0 inb_S112x512_S1x512_69_0 _ rfl,
    w 2176 272 68 (by norm_num) (by norm_num) rfl rfl inb_S3584x512_S32x512_2176_0 inb_S448x512_S4x512_272_0 inb_S112x512_S1x512_68_0 _ rfl,
    w 2144 268 67 (by norm_num) (by norm_num) rfl rfl inb_S3584x512_S32x512_2144_0 inb_S448x512_S4x512_268_0 inb_S112x512_S1x512_67_0 _ rfl,
    w 2112 264 66 (by norm_num) (by norm_num) rfl rfl inb_S3584x512_S32x512_2112_0 inb_S448x512_S4x512_264_0 inb_S112x512_S1x512_66_0 _ rfl,
    w 2080 260 65 (by norm_num) (by norm_num) rfl rfl inb_S3584x512_S32x512_2080_0 inb_S448x512_S4x512_260_0 inb_S112x512_S1x512_65_0 _ rfl,
    w 2048 256 64 (by norm_num) (by norm_num) rfl rfl inb_S3584x512_S32x512_2048_0 inb_S448x512_S4x512_256_0 inb_S112x512_S1x512_64_0 _ rfl,
    w 2016 252 63 (by norm_num) (by norm_num) rfl rfl inb_S3584x512_S32x512_2016_0 inb_S448x512_S4x512_252_0 inb_S112x512_S1x512_63_0 _ rfl,
    w 1984 248 62 (by norm_num) (by norm_num) rfl rfl inb_S3584x512_S32x512_1984_0 inb_S448x512_S4x512_248_0 inb_S112x512_S1x512_62_0 _ rfl,
    w 1952 244 61 (by norm_num) (by norm_num) rfl rfl inb_S3584x512_S32x512_1952_0 inb_S448x512_S4x512_244_0 inb_S112x512_S1x512_61_0 _ rfl,
    w 1920 240 60 (by norm_num) (by norm_num) rfl rfl inb_S3584x512_S32x512_1920_0 inb_S448x512_S4x512_240_0 inb_S112x512_S1x512_60_0 _ rfl,
    w 1888 236 59 (by norm_num) (by norm_num) rfl rfl inb_S3584x512_S32x512_1888_0 inb_S448x512_S4x512_236_0 inb_S112x512_S1x512_59_0 _ rfl,
    w 1856 232 58 (by norm_num) (by norm_num) rfl rfl inb_S3584x512_S32x512_1856_0 inb_S448x512_S4x512_232_0 inb_S112x512_S1x512_58_0 _ rfl,
    w 1824 228 57 (by norm_num) (by norm_num) rfl rfl inb_S3584x512_S32x512_1824_0 inb_S448x512_S4x512_228_0 inb_S112x512_S1x512_57_0 _ rfl,
    w 1792 224 56 (by norm_num) (by norm_num) rfl rfl inb_S3584x512_S32x512_1792_0 inb_S448x512_S4x512_224_0 inb_S112x512_S1x512_56_0 _ rfl,
    w 1760 220 55 (by norm_num) (by norm_num) rfl rfl inb_S3584x512_S32x512_1760_0 inb_S448x512_S4x512_220_0 inb_S112x512_S1x512_55_0 _ rfl,
    w 1728 216 54 (by norm_num) (by norm_num) rfl rfl inb_S3584x512_S32x512_1728_0 inb_S448x512_S4x512_216_0 inb_S112x512_S1x512_54_0 _ rfl,
    w 1696 212 53 (by norm_num) (by norm_num) rfl rfl inb_S3584x512_S32x512_1696_0 inb_S448x512_S4x512_212_0 inb_S112x512_S1x512_53_0 _ rfl,
    w 1664 208 52 (by norm_num) (by norm_num) rfl rfl inb_S3584x512_S32x512_1664_0 inb_S448x512_S4x512_208_0 inb_S112x512_S1x512_52_0 _ rfl,
    w 1632 204 51 (by norm_num) (by norm_num) rfl rfl inb_S3584x512_S32x512_1632_0 inb_S448x512_S4x512_204_0 inb_S112x512_S1x512_51_0 _ rfl,
    w 1600 200 50 (by norm_num) (by norm_num) rfl rfl inb_S3584x512_S32x512_1600_0 inb_S448x512_S4x512_200_0 inb_S112x512_S1x512_50_0 _ rfl,
    w 1568 196 49 (by norm_num) (by norm_num) rfl rfl inb_S3584x512_S32x512_1568_0 inb_S448x512_S4x512_196_0 inb_S112x512_S1x512_49_0 _ rfl,
    w 1536 192 48 (by norm_num) (by norm_num) rfl rfl inb_S3584x512_S32x512_1536_0 inb_S448x512_S4x512_192_0 inb_S112x512_S1x512_48_0 _ rfl,
    w 1504 188 47 (by norm_num) (by norm_num) rfl rfl inb_S3584x512_S32x512_1504_0 inb_S448x512_S4x512_188_0 inb_S112x512_S1x512_47_0 _ rfl,
    w 1472 184 46 (by norm_num) (by norm_num) rfl rfl inb_S3584x512_S32x512_1472_0 inb_S448x512_S4x512_184_0 inb_S112x512_S1x512_46_0 _ rfl,
    w 1440 180 45 (by norm_num) (by norm_num) rfl rfl inb_S3584x512_S32x512_1440_0 inb_S448x512_S4x512_180_0 inb_S112x512_S1x512_45_0 _ rfl,
    w 1408 176 44 (by norm_num) (by norm_num) rfl rfl inb_S3584x512_S32x512_1408_0 inb_S448x512_S4x512_176_0 inb_S112x512_S1x512_44_0 _ rfl,
    w 1376 172 43 (by norm_num) (by norm_num) rfl rfl inb_S3584x512_S32x512_1376_0 inb_S448x512_S4x512_172_0 inb_S112x512_S1x512_43_0 _ rfl,
    w 1344 168 42 (by norm_num) (by norm_num) rfl rfl inb_S3584x512_S32x512_1344_0 inb_S448x512_S4x512_168_0 inb_S112x512_S1x512_42_0 _ rfl,
    w 1312 164 41 (by norm_num) (by norm_num) rfl rfl inb_S3584x512_S32x512_1312_0 inb_S448x512_S4x512_164_0 inb_S112x512_S1x512_41_0 _ rfl,
    w 1280 160 40 (by norm_num) (by norm_num) rfl rfl inb_S3584x512_S32x512_1280_0 inb_S448x512_S4x512_160_0 inb_S112x512_S1x512_40_0 _ rfl,
    w 1248 156 39 (by norm_num) (by norm_num) rfl rfl inb_S3584x512_S32x512_1248_0 inb_S448x512_S4x512_156_0 inb_S112x512_S1x512_39_0 _ rfl,
    w 1216 152 38 (by norm_num) (by norm_num) rfl rfl inb_S3584x512_S32x512_1216_0 inb_S448x512_S4x512_152_0 inb_S112x512_S1x512_38_0 _ rfl,
    w 1184 148 37 (by norm_num) (by norm_num) rfl rfl inb_S3584x512_S32x512_1184_0 inb_S448x512_S4x512_148_0 inb_S112x512_S1x512_37_0 _ rfl,
    w 1152 144 36 (by norm_num) (by norm_num) rfl rfl inb_S3584x512_S32x512_1152_0 inb_S448x512_S4x512_144_0 inb_S112x512_S1x512_36_0 _ rfl,
    w 1120 140 35 (by norm_num) (by norm_num) rfl rfl inb_S3584x512_S32x512_1120_0 inb_S448x512_S4x512_140_0 inb_S112x512_S1x512_35_0 _ rfl,
    w 1088 136 34 (by norm_num) (by norm_num) rfl rfl inb_S3584x512_S32x512_1088_0 inb_S448x512_S4x512_136_0 inb_S112x512_S1x512_34_0 _ rfl,
    w 1056 132 33 (by norm_num) (by norm_num) rfl rfl inb_S3584x512_S32x512_1056_0 inb_S448x512_S4x512_132_0 inb_S112x512_S1x512_33_0 _ rfl,
    w 1024 128 32 (by norm_num) (by norm_num) rfl rfl inb_S3584x512_S32x512_1024_0 inb_S448x512_S4x512_128_0 inb_S112x512_S1x512_32_0 _ rfl,
    w 992 124 31 (by norm_num) (by norm_num) rfl rfl inb_S3584x512_S32x512_992_0 inb_S448x512_S4x512_124_0 inb_S112x512_S1x512_31_0 _ rfl,
    w 960 120 30 (by norm_num) (by norm_num) rfl rfl inb_S3584x512_S32x512_960_0 inb_S448x512_S4x512_120_0 inb_S112x512_S1x512_30_0 _ rfl,
    w 928 116 29 (by norm_num) (by norm_num) rfl rfl inb_S3584x512_S32x512_928_0 inb_S448x512_S4x512_116_0 inb_S112x512_S1x512_29_0 _ rfl,
    w 896 112 28 (by norm_num) (by norm_num) rfl rfl inb_S3584x512_S32x512_896_0 inb_S448x512_S4x512_112_0 inb_S112x512_S1x512_28_0 _ rfl,
    w 864 108 27 (by norm_num) (by norm_num) rfl rfl inb_S3584x512_S32x512_864_0 inb_S448x512_S4x512_108_0 inb_S112x512_S1x512_27_0 _ rfl,
    w 832 104 26 (by norm_num) (by norm_num) rfl rfl inb_S3584x512_S32x512_832_0 inb_S448x512_S4x512_104_0 inb_S112x512_S1x512_26_0 _ rfl,
    w 800 100 25 (by norm_num) (by norm_num) rfl rfl inb_S3584x512_S32x512_800_0 inb_S448x512_S4x512_100_0 inb_S112x512_S1x512_25_0 _ rfl,
    w 768 96 24 (by norm_num) (by norm_num) rfl rfl inb_S3584x512_S32x512_768_0 inb_S448x512_S4x512_96_0 inb_S112x512_S1x512_24_0 _ rfl,
    w 736 92 23 (by norm_num) (by norm_num) rfl rfl inb_S3584x512_S32x512_736_0 inb_S448x512_S4x512_92_0 inb_S112x512_S1x512_23_0 _ rfl,
    w 704 88 22 (by norm_num) (by norm_num) rfl rfl inb_S3584x512_S32x512_704_0 inb_S448x512_S4x512_88_0 inb_S112x512_S1x512_22_0 _ rfl,
    w 672 84 21 (by norm_num) (by norm_num) rfl rfl inb_S3584x512_S32x512_672_0 inb_S448x512_S4x512_84_0 inb_S112x512_S1x512_21_0 _ rfl,
    w 640 80 20 (by norm_num) (by norm_num) rfl rfl inb_S3584x512_S32x512_640_0 inb_S448x512_S4x512_80_0 inb_S112x512_S1x512_20_0 _ rfl,
    w 608 76 19 (by norm_num) (by norm_num) rfl rfl inb_S3584x512_S32x512_608_0 inb_S448x512_S4x512_76_0 inb_S112x512_S1x512_19_0 _ rfl,
    w 576 72 18 (by norm_num) (by norm_num) rfl rfl inb_S3584x512_S32x512_576_0 inb_S448x512_S4x512_72_0 inb_S112x512_S1x512_18_0 _ rfl,
    w 544 68 17 (by norm_num) (by norm_num) rfl rfl inb_S3584x512_S32x512_544_0 inb_S448x512_S4x512_68_0 inb_S112x512_S1x512_17_0 _ rfl,
    w 512 64 16 (by norm_num) (by norm_num) rfl rfl inb_S3584x512_S32x512_512_0 inb_S448x512_S4x512_64_0 inb_S112x512_S1x512_16_0 _ rfl,
    w 480 60 15 (by norm_num) (by norm_num) rfl rfl inb_S3584x512_S32x512_480_0 inb_S448x512_S4x512_60_0 inb_S112x512_S1x512_15_0 _ rfl,
    w 448 56 14 (by norm_num) (by norm_num) rfl rfl inb_S3584x512_S32x512_448_0 inb_S448x512_S4x512_56_0 inb_S112x512_S1x512_14_0 _ rfl,
    w 416 52 13 (by norm_num) (by norm_num) rfl rfl inb_S3584x512_S32x512_416_0 inb_S448x512_S4x512_52_0 inb_S112x512_S1x512_13_0 _ rfl,
    w 384 48 12 (by norm_num) (by norm_num) rfl rfl inb_S3584x512_S32x512_384_0 inb_S448x512_S4x512_48_0 inb_S112x512_S1x512_12_0 _ rfl,
    w 352 44 11 (by norm_num) (by norm_num) rfl rfl inb_S3584x512_S32x512_352_0 inb_S448x512_S4x512_44_0 inb_S112x512_S1x512_11_0 _ rfl,
    w 320 40 10 (by norm_num) (by norm_num) rfl rfl inb_S3584x512_S32x512_320_0 inb_S448x512_S4x512_40_0 inb_S112x512_S1x512_10_0 _ rfl,
    w 288 36 9 (by norm_num) (by norm_num) rfl rfl inb_S3584x512_S32x512_288_0 inb_S448x512_S4x512_36_0 inb_S112x512_S1x512_9_0 _ rfl,
    w 256 32 8 (by norm_num) (by norm_num) rfl rfl inb_S3584x512_S32x512_256_0 inb_S448x512_S4x512_32_0 inb_S112x512_S1x512_8_0 _ rfl,
    w 224 28 7 (by norm_num) (by norm_num) rfl rfl inb_S3584x512_S32x512_224_0 inb_S448x512_S4x512_28_0 inb_S112x512_S1x512_7_0 _ rfl,
    w 192 24 6 (by norm_num) (by norm_num) rfl rfl inb_S3584x512_S32x512_192_0 inb_S448x512_S4x512_24_0 inb_S112x512_S1x512_6_0 _ rfl,
    w 160 20 5 (by norm_num) (by norm_num) rfl rfl inb_S3584x512_S32x512_160_0 inb_S448x512_S4x512_20_0 inb_S112x512_S1x512_5_0 _ rfl,
    w 128 16 4 (by norm_num) (by norm_num) rfl rfl inb_S3584x512_S32x512_128_0 inb_S448x512_S4x512_16_0 inb_S112x512_S1x512_4_0 _ rfl,
    w 96 12 3 (by norm_num) (by norm_num) rfl rfl inb_S3584x512_S32x512_96_0 inb_S448x512_S4x512_12_0 inb_S112x512_S1x512_3_0 _ rfl,
    w 64 8 2 (by norm_num) (by norm_num) rfl rfl inb_S3584x512_S32x512_64_0 inb_S448x512_S4x512_8_0 inb_S112x512_S1x512_2_0 _ rfl,
    w 32 4 1 (by norm_num) (by norm_num) rfl rfl inb_S3584x512_S32x512_32_0 inb_S448x512_S4x512_4_0 inb_S112x512_S1x512_1_0 _ rfl,
    w 0 0 0 (by norm_num) (by norm_num) rfl rfl inb_S3584x512_S32x512_0_0 inb_S448x512_S4x512_0_0 inb_S112x512_S1x512_0_0 _ rfl, trivial⟩

/-- The group indicator the averages are taken against. -/
def poolMat : Vec Ideal S3584x128 .bf16 := fun y => if (y 0).val / 32 = (y 1).val then 1 else 0

/-- The low-rank activations of a block of rows. -/
def lowMat (x0 : Vec Ideal S2048x3584 .bf16) (x4 : Vec Ideal S112x32 .bf16) : Vec Ideal S2048x32 .bf16 := fun y =>
  low (fun k => x0 (ix2 (y 0) k)) (fun g => x4 (ix2 g (y 1)))

/-- A block of the result: the rows against the weights, plus the low-rank activations against the second factor. -/
def outMat (x0 : Vec Ideal S2048x3584 .bf16) (w : Vec Ideal S3584x512 .bf16) (u : Vec Ideal S2048x32 .bf16) (x5 : Vec Ideal S32x512 .bf16) :
    Vec Ideal S2048x512 .bf16 := fun y =>
  (∑ k, x0 (ix2 (y 0) k) * w (ix2 k (y 1))) + ∑ k, u (ix2 (y 0) k) * x5 (ix2 k (y 1))

theorem pay2_eq : k0_pay2 (F := Ideal) = poolMat := by
  funext y
  obtain ⟨a, b, rfl⟩ : ∃ (a : Fin 3584) (b : Fin 128), y = ix2 a b := ⟨y 0, y 1, eq_ix2 y⟩
  exact pay2_apply a b

theorem pay3_eq (x : Vec Ideal S2048x3584 .bf16) (la : Vec Ideal S112x32 .bf16) : k0_pay3 (F := Ideal) x poolMat la = lowMat x la := by
  funext y
  obtain ⟨a, b, rfl⟩ : ∃ (a : Fin 2048) (b : Fin 32), y = ix2 a b := ⟨y 0, y 1, eq_ix2 y⟩
  exact pay3_apply x poolMat la (fun _ _ => rfl) a b

theorem pay1_eq (x : Vec Ideal S2048x3584 .bf16) (w : Vec Ideal S3584x512 .bf16) (u : Vec Ideal S2048x32 .bf16) (lb : Vec Ideal S32x512 .bf16) :
    k0_pay1 (F := Ideal) (k0_pay204 x w) u lb = outMat x w u lb := by
  funext y
  obtain ⟨a, b, rfl⟩ : ∃ (a : Fin 2048) (b : Fin 512), y = ix2 a b := ⟨y 0, y 1, eq_ix2 y⟩
  exact pay1_apply x w u lb a b

theorem out_B (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole)
    (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole)
    (hc0 : ¬cond0_0 i) (hc1 : ¬cond0_1 i)
    (x0 : Vec Ideal S2048x3584 .bf16) (x1 : Vec Ideal S448x512 .i32) (x2 : Vec Ideal S112x512 .bf16) (x3 : Vec Ideal S112x128 .i32) (x4 : Vec Ideal S112x32 .bf16) (x5 : Vec Ideal S32x512 .bf16) (xs0 : Vec Ideal S3584x128 .bf16) (xs1 : Vec Ideal S2048x32 .bf16) :
    View.canon (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = outMat x0 (wmat i x1 x2 x3) xs1 x5 := by
  have l0 := load_whole arg2 harg2 inb_S2048x3584_S2048x3584_0_0 x0
  have l4 := load_whole arg6 harg6 inb_S112x32_S112x32_0_0 x4
  have l5 := load_whole arg7 harg7 inb_S32x512_S32x512_0_0 x5
  have w : kernelRun0_B.sl.v2704 (F := Ideal) c i arg3 harg3 arg4 harg4 arg5 harg5 arg11 arg12 arg13 x1 x2 x3 = wmat i x1 x2 x3 :=
    readCov_whole arg11 _ inb_S3584x512_S3584x512_0_0 _ (wlist_B c i arg3 harg3 arg4 harg4 arg5 harg5 arg12 arg13 x1 x2 x3)
  have u := load_whole arg10 harg10 inb_S2048x32_S2048x32_0_0 xs1
  refine (canon_whole inb_S2048x512_S2048x512_0_0 _).trans (Eq.trans ?_ (pay1_eq x0 (wmat i x1 x2 x3) xs1 x5))
  exact congr (congr (congrArg (k0_pay1 (F := Ideal)) (congr (congrArg (k0_pay204 (F := Ideal)) l0) w)) u) l5

theorem low_C (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole)
    (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole)
    (hc0 : ¬cond0_0 i) (hc1 : cond0_1 i)
    (x0 : Vec Ideal S2048x3584 .bf16) (x1 : Vec Ideal S448x512 .i32) (x2 : Vec Ideal S112x512 .bf16) (x3 : Vec Ideal S112x128 .i32) (x4 : Vec Ideal S112x32 .bf16) (x5 : Vec Ideal S32x512 .bf16) :
    View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 poolMat).2.2.1 = lowMat x0 x4 := by
  have l0 := load_whole arg2 harg2 inb_S2048x3584_S2048x3584_0_0 x0
  have l4 := load_whole arg6 harg6 inb_S112x32_S112x32_0_0 x4
  have l5 := load_whole arg7 harg7 inb_S32x512_S32x512_0_0 x5
  have p := load_whole arg9 harg9 inb_S3584x128_S3584x128_0_0 poolMat
  refine (canon_whole inb_S2048x32_S2048x32_0_0 _).trans (Eq.trans ?_ (pay3_eq x0 x4))
  exact congr (congr (congrArg (k0_pay3 (F := Ideal)) l0) p) l4

theorem out_C (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole)
    (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole)
    (hc0 : ¬cond0_0 i) (hc1 : cond0_1 i)
    (x0 : Vec Ideal S2048x3584 .bf16) (x1 : Vec Ideal S448x512 .i32) (x2 : Vec Ideal S112x512 .bf16) (x3 : Vec Ideal S112x128 .i32) (x4 : Vec Ideal S112x32 .bf16) (x5 : Vec Ideal S32x512 .bf16) :
    View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 poolMat).1 = outMat x0 (wmat i x1 x2 x3) (lowMat x0 x4) x5 := by
  have l0 := load_whole arg2 harg2 inb_S2048x3584_S2048x3584_0_0 x0
  have l4 := load_whole arg6 harg6 inb_S112x32_S112x32_0_0 x4
  have l5 := load_whole arg7 harg7 inb_S32x512_S32x512_0_0 x5
  have w : kernelRun0_C.sl.v2704 (F := Ideal) c i arg3 harg3 arg4 harg4 arg5 harg5 arg11 arg12 arg13 x1 x2 x3 = wmat i x1 x2 x3 :=
    readCov_whole arg11 _ inb_S3584x512_S3584x512_0_0 _ (wlist_B c i arg3 harg3 arg4 harg4 arg5 harg5 arg12 arg13 x1 x2 x3)
  have u := readCov_whole arg10 _ inb_S2048x32_S2048x32_0_0 _ (low_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
  refine (canon_whole inb_S2048x512_S2048x512_0_0 _).trans (Eq.trans ?_ (pay1_eq x0 (wmat i x1 x2 x3) (lowMat x0 x4) x5))
  exact congr (congr (congrArg (k0_pay1 (F := Ideal)) (congr (congrArg (k0_pay204 (F := Ideal)) l0) w)) u) l5

theorem pool_A (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole)
    (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole)
    (hc0 : cond0_0 i) (hc1 : cond0_1 i)
    (x0 : Vec Ideal S2048x3584 .bf16) (x1 : Vec Ideal S448x512 .i32) (x2 : Vec Ideal S112x512 .bf16) (x3 : Vec Ideal S112x128 .i32) (x4 : Vec Ideal S112x32 .bf16) (x5 : Vec Ideal S32x512 .bf16) :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 = poolMat := by
  exact (canon_whole inb_S3584x128_S3584x128_0_0 _).trans pay2_eq

theorem low_A (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole)
    (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole)
    (hc0 : cond0_0 i) (hc1 : cond0_1 i)
    (x0 : Vec Ideal S2048x3584 .bf16) (x1 : Vec Ideal S448x512 .i32) (x2 : Vec Ideal S112x512 .bf16) (x3 : Vec Ideal S112x128 .i32) (x4 : Vec Ideal S112x32 .bf16) (x5 : Vec Ideal S32x512 .bf16) :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 = lowMat x0 x4 := by
  have l0 := load_whole arg2 harg2 inb_S2048x3584_S2048x3584_0_0 x0
  have l4 := load_whole arg6 harg6 inb_S112x32_S112x32_0_0 x4
  have l5 := load_whole arg7 harg7 inb_S32x512_S32x512_0_0 x5
  have p := readCov_whole arg9 _ inb_S3584x128_S3584x128_0_0 _ (pool_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
  refine (canon_whole inb_S2048x32_S2048x32_0_0 _).trans (Eq.trans ?_ (pay3_eq x0 x4))
  exact congr (congr (congrArg (k0_pay3 (F := Ideal)) l0) p) l4

theorem out_A (c : Dev nD) (i : grid0.Coords) (arg2 : Memref sig .tc .vmem S2048x3584 .bf16) (harg2 : arg2.IsWhole) (arg3 : Memref sig .tc .vmem S448x512 .i32) (harg3 : arg3.IsWhole) (arg4 : Memref sig .tc .vmem S112x512 .bf16) (harg4 : arg4.IsWhole) (arg5 : Memref sig .tc .vmem S112x128 .i32) (harg5 : arg5.IsWhole) (arg6 : Memref sig .tc .vmem S112x32 .bf16) (harg6 : arg6.IsWhole) (arg7 : Memref sig .tc .vmem S32x512 .bf16) (harg7 : arg7.IsWhole) (arg8 : Memref sig .tc .vmem S2048x512 .bf16) (harg8 : arg8.IsWhole)
    (arg9 : Memref sig .tc .vmem S3584x128 .bf16) (harg9 : arg9.IsWhole) (arg10 : Memref sig .tc .vmem S2048x32 .bf16) (harg10 : arg10.IsWhole) (arg11 : Memref sig .tc .vmem S3584x512 .bf16) (harg11 : arg11.IsWhole) (arg12 : Memref sig .tc .vmem S112x512 .f32) (harg12 : arg12.IsWhole) (arg13 : Memref sig .tc .vmem S112x512 .f32) (harg13 : arg13.IsWhole)
    (hc0 : cond0_0 i) (hc1 : cond0_1 i)
    (x0 : Vec Ideal S2048x3584 .bf16) (x1 : Vec Ideal S448x512 .i32) (x2 : Vec Ideal S112x512 .bf16) (x3 : Vec Ideal S112x128 .i32) (x4 : Vec Ideal S112x32 .bf16) (x5 : Vec Ideal S32x512 .bf16) :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1 = outMat x0 (wmat i x1 x2 x3) (lowMat x0 x4) x5 := by
  have l0 := load_whole arg2 harg2 inb_S2048x3584_S2048x3584_0_0 x0
  have l4 := load_whole arg6 harg6 inb_S112x32_S112x32_0_0 x4
  have l5 := load_whole arg7 harg7 inb_S32x512_S32x512_0_0 x5
  have w : kernelRun0_A.sl.v2704 (F := Ideal) c i arg3 harg3 arg4 harg4 arg5 harg5 arg11 arg12 arg13 x1 x2 x3 = wmat i x1 x2 x3 :=
    readCov_whole arg11 _ inb_S3584x512_S3584x512_0_0 _ (wlist_B c i arg3 harg3 arg4 harg4 arg5 harg5 arg12 arg13 x1 x2 x3)
  have u := readCov_whole arg10 _ inb_S2048x32_S2048x32_0_0 _ (low_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
  refine (canon_whole inb_S2048x512_S2048x512_0_0 _).trans (Eq.trans ?_ (pay1_eq x0 (wmat i x1 x2 x3) (lowMat x0 x4) x5))
  exact congr (congr (congrArg (k0_pay1 (F := Ideal)) (congr (congrArg (k0_pay204 (F := Ideal)) l0) w)) u) l5

end Cert.KernelIdeal.Gen

end
-- ==== Proof.Ideal.Blocks.lean ====
module

public import proofs.«01_k».proof.Proof.Ideal.Forget
public import proofs.«01_k».proof.Proof.Ideal.Stores

/-!
# The blocks of the windows, read at an index

Point `t = 37 b + j` of the grid sees rows `2048 b …` of the activations and columns `512 j …` of everything else; of the packed
zero points it sees the 128 words from `128 (j / 2)` on, half of which belong to its columns.
-/

@[expose] public section

set_option maxRecDepth 16384

noncomputable section

namespace Cert.KernelIdeal.Gen

open Idealize.ShloMosaic Idealize.ShloMosaic.TcCoe Idealize.ShloMosaic.Tactic
open Idealize.ShloMosaic.Pipeline (Dat RDat Cfg Window BodyObligation BodyObligationLoose cellOf)
open Cert.Words Cert.Spec

variable (m : (ℓ : Loc nD τ sig) → Buf (Elt Ideal) ℓ)

theorem lt222 (t : Fin cfg0.N) : t.val < 222 := lt_of_lt_of_eq t.isLt (show cfg0.N = 222 from N_0)

/-- The second coordinate of a point. -/
theorem coord1 : ∀ t : Fin cfg0.N, ((grid0.coords t) 1).val = t.val % 37 := (by decide +kernel : ∀ t : Fin grid0.N, _)

/-- The windows' block indices at a point. -/
theorem index0 : ∀ t : Fin cfg0.N, win0_0.index t (0 : Fin 2) = t.val / 37 ∧ win0_0.index t (1 : Fin 2) = 0 := (by decide +kernel : ∀ t : Fin grid0.N, _)
theorem index1 : ∀ t : Fin cfg0.N, win0_1.index t (0 : Fin 2) = 0 ∧ win0_1.index t (1 : Fin 2) = t.val % 37 := (by decide +kernel : ∀ t : Fin grid0.N, _)
theorem index2 : ∀ t : Fin cfg0.N, win0_2.index t (0 : Fin 2) = 0 ∧ win0_2.index t (1 : Fin 2) = t.val % 37 := (by decide +kernel : ∀ t : Fin grid0.N, _)
theorem index3 : ∀ t : Fin cfg0.N, win0_3.index t (0 : Fin 2) = 0 ∧ win0_3.index t (1 : Fin 2) = t.val % 37 / 2 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = t.val % 37 := (by decide +kernel : ∀ t : Fin grid0.N, _)
theorem index6 : ∀ t : Fin cfg0.N, win0_6.index t (0 : Fin 2) = t.val / 37 ∧ win0_6.index t (1 : Fin 2) = t.val % 37 := (by decide +kernel : ∀ t : Fin grid0.N, _)

/-- The part of the zero-point block inside the array: all of it, or 64 lanes at the last one. -/
theorem xsize3 : ∀ t : Fin cfg0.N, win0_3.xsize (grid0.coords t) (0 : Fin 2) = 112
    ∧ t.val % 37 % 2 * 64 + 64 ≤ win0_3.xsize (grid0.coords t) (1 : Fin 2) := (by decide +kernel : ∀ t : Fin grid0.N, _)

/-- Two coordinates equal, the index equal. -/
theorem idx_ext2 {n k : ℕ} (y z : (⟨2, ![n, k]⟩ : Shape).Idx) (h0 : (y 0).val = (z 0).val) (h1 : (y 1).val = (z 1).val) : y = z := by
  rw [eq_ix2 y, eq_ix2 z]; exact congrArg₂ ix2 (Fin.ext h0) (Fin.ext h1)

theorem iblk0_apply (c : Dev nD) (t : Fin cfg0.N) (a : Fin 2048) (k : Fin 3584) :
    iblk m c 0 t (ix2 a k) = (V m c main_v0 : Vec Ideal S12288x3584 .bf16) (ix2 ⟨t.val / 37 * 2048 + a.val, by have := lt222 t; omega⟩ k) := by
  obtain ⟨e0, e1⟩ := index0 t
  refine congrArg (V m c main_v0 : Vec Ideal S12288x3584 .bf16) (idx_ext2 _ _ ?_ ?_)
  · show win0_0.index t (0 : Fin 2) * 2048 + 1 * a.val = t.val / 37 * 2048 + a.val; omega
  · show win0_0.index t (1 : Fin 2) * 3584 + 1 * k.val = k.val; omega

theorem iblk1_apply (c : Dev nD) (t : Fin cfg0.N) (a : Fin 448) (b : Fin 512) :
    iblk m c 1 t (ix2 a b) = (V m c main_arg1 : Vec Ideal S448x18944 .i32) (ix2 a ⟨t.val % 37 * 512 + b.val, by omega⟩) := by
  obtain ⟨e0, e1⟩ := index1 t
  refine congrArg (V m c main_arg1 : Vec Ideal S448x18944 .i32) (idx_ext2 _ _ ?_ ?_)
  · show win0_1.index t (0 : Fin 2) * 448 + 1 * a.val = a.val; omega
  · show win0_1.index t (1 : Fin 2) * 512 + 1 * b.val = t.val % 37 * 512 + b.val; omega

theorem iblk2_apply (c : Dev nD) (t : Fin cfg0.N) (a : Fin 112) (b : Fin 512) :
    iblk m c 2 t (ix2 a b) = (V m c main_arg2 : Vec Ideal S112x18944 .bf16) (ix2 a ⟨t.val % 37 * 512 + b.val, by omega⟩) := by
  obtain ⟨e0, e1⟩ := index2 t
  refine congrArg (V m c main_arg2 : Vec Ideal S112x18944 .bf16) (idx_ext2 _ _ ?_ ?_)
  · show win0_2.index t (0 : Fin 2) * 112 + 1 * a.val = a.val; omega
  · show win0_2.index t (1 : Fin 2) * 512 + 1 * b.val = t.val % 37 * 512 + b.val; omega

theorem iblk4_apply (c : Dev nD) (t : Fin cfg0.N) (a : Fin 112) (b : Fin 32) :
    iblk m c 4 t (ix2 a b) = (V m c main_arg4 : Vec Ideal S112x32 .bf16) (ix2 a b) := by
  obtain ⟨e0, e1⟩ := index4 t
  refine congrArg (V m c main_arg4 : Vec Ideal S112x32 .bf16) (idx_ext2 _ _ ?_ ?_)
  · show win0_4.index t (0 : Fin 2) * 112 + 1 * a.val = a.val; omega
  · show win0_4.index t (1 : Fin 2) * 32 + 1 * b.val = b.val; omega

theorem iblk5_apply (c : Dev nD) (t : Fin cfg0.N) (a : Fin 32) (b : Fin 512) :
    iblk m c 5 t (ix2 a b) = (V m c main_arg5 : Vec Ideal S32x18944 .bf16) (ix2 a ⟨t.val % 37 * 512 + b.val, by omega⟩) := by
  obtain ⟨e0, e1⟩ := index5 t
  refine congrArg (V m c main_arg5 : Vec Ideal S32x18944 .bf16) (idx_ext2 _ _ ?_ ?_)
  · show win0_5.index t (0 : Fin 2) * 32 + 1 * a.val = a.val; omega
  · show win0_5.index t (1 : Fin 2) * 512 + 1 * b.val = t.val % 37 * 512 + b.val; omega

/-- The lanes of the zero-point block that the point's columns read, whatever lies outside the array. -/
theorem zfill_apply (c : Dev nD) (t : Fin cfg0.N) (d : Vec Ideal S112x128 .i32) (a : Fin 112) (l : ℕ) (hl : l < 64) :
    zfill m c t d (ix2 a ⟨t.val % 37 % 2 * 64 + l, by omega⟩)
      = (V m c main_arg3 : Vec Ideal S112x2368 .i32) (ix2 a ⟨t.val % 37 * 64 + l, by omega⟩) := by
  obtain ⟨e0, e1⟩ := index3 t
  obtain ⟨x0, x1⟩ := xsize3 t
  have hm : (cfg0.win 3).moved (cfg0.grid.coords t) (ix2 (n0 := 112) (n1 := 128) a ⟨t.val % 37 % 2 * 64 + l, by omega⟩) = true := by
    refine ((cfg0.win 3).moved_iff _ _).mpr fun k => ?_
    match k with
    | ⟨0, _⟩ => show a.val < win0_3.xsize (grid0.coords t) (0 : Fin 2); omega
    | ⟨1, _⟩ => show t.val % 37 % 2 * 64 + l < win0_3.xsize (grid0.coords t) (1 : Fin 2); omega
  unfold zfill Pipeline.Window.fill
  rw [dif_pos hm]
  refine congrArg (V m c main_arg3 : Vec Ideal S112x2368 .i32) (idx_ext2 _ _ ?_ ?_)
  · show win0_3.index t (0 : Fin 2) * 112 + 1 * a.val = a.val; omega
  · show win0_3.index t (1 : Fin 2) * 128 + 1 * (t.val % 37 % 2 * 64 + l) = t.val % 37 * 64 + l; omega

/-! ## What a point computes, over the arrays -/

/-- The weights of the whole layer, from the packed arrays. -/
def wGlob (q : Vec Ideal S448x18944 .i32) (s : Vec Ideal S112x18944 .bf16) (z : Vec Ideal S112x2368 .i32) (k : Fin 3584) (o : Fin 18944) : EReal :=
  weight (nib (q (ix2 ⟨k.val / 8, by omega⟩ o)) (k.val % 8)) (nib (z (ix2 ⟨k.val / 32, by omega⟩ ⟨o.val / 8, by omega⟩)) (o.val % 8))
    (s (ix2 ⟨k.val / 32, by omega⟩ o))

/-- The whole layer: the rows against the weights, plus the low-rank branch. -/
def outGlob (x : Vec Ideal S12288x3584 .bf16) (q : Vec Ideal S448x18944 .i32) (s : Vec Ideal S112x18944 .bf16) (z : Vec Ideal S112x2368 .i32)
    (a : Vec Ideal S112x32 .bf16) (b : Vec Ideal S32x18944 .bf16) : Vec Ideal S12288x18944 .bf16 := fun y =>
  (∑ k, x (ix2 (y 0) k) * wGlob q s z k (y 1)) + ∑ r, low (fun k => x (ix2 (y 0) k)) (fun g => a (ix2 g r)) * b (ix2 r (y 1))

/-- The weights of a point's columns are those columns of the layer's weights, whatever lies outside the zero points' array. -/
theorem wmat_apply (c : Dev nD) (t : Fin cfg0.N) (d : Vec Ideal S112x128 .i32) (k : Fin 3584) (o : Fin 512) :
    wmat (grid0.coords t) (iblk m c 1 t) (iblk m c 2 t) (zfill m c t d) (ix2 k o)
      = wGlob (V m c main_arg1) (V m c main_arg2) (V m c main_arg3) k ⟨t.val % 37 * 512 + o.val, by omega⟩ := by
  have hz := zfill_apply m c t d ⟨k.val / 32, by omega⟩ (o.val / 8) (by omega)
  have ez : (⟨((grid0.coords t) 1).val % 2 * 64 + o.val / 8, by omega⟩ : Fin 128) = ⟨t.val % 37 % 2 * 64 + o.val / 8, by omega⟩ :=
    Fin.ext (by dsimp only; rw [coord1])
  have eo : (⟨t.val % 37 * 64 + o.val / 8, by omega⟩ : Fin 2368) = ⟨(t.val % 37 * 512 + o.val) / 8, by omega⟩ := Fin.ext (by dsimp only; omega)
  have em : (t.val % 37 * 512 + o.val) % 8 = o.val % 8 := by omega
  unfold wmat wGlob
  simp only [ix2_0, ix2_1]
  rw [ez, hz, eo, em, iblk1_apply, iblk2_apply]

/-- So they do not depend on it. -/
theorem wmat_zfill (c : Dev nD) (t : Fin cfg0.N) (d : Vec Ideal S112x128 .i32) :
    wmat (grid0.coords t) (iblk m c 1 t) (iblk m c 2 t) (zfill m c t d)
      = wmat (grid0.coords t) (iblk m c 1 t) (iblk m c 2 t) (zfill m c t (fun _ => (0#32 : BitVec 32))) := by
  funext y
  obtain ⟨k, o, rfl⟩ : ∃ (k : Fin 3584) (o : Fin 512), y = ix2 k o := ⟨y 0, y 1, eq_ix2 y⟩
  rw [wmat_apply, wmat_apply]

/-- The low-rank activations after point `t`. -/
def lowAt (c : Dev nD) (t : Fin cfg0.N) : Vec Ideal S2048x32 .bf16 := lowMat (iblk m c 0 t) (iblk m c 4 t)

/-- They are those of the point before, except at the first column block. -/
theorem lowAt_prev (c : Dev nD) (t t' : Fin cfg0.N) (h : t.val / 37 = t'.val / 37) : lowAt m c t = lowAt m c t' := by
  funext y
  obtain ⟨a, r, rfl⟩ : ∃ (a : Fin 2048) (r : Fin 32), y = ix2 a r := ⟨y 0, y 1, eq_ix2 y⟩
  unfold lowAt lowMat
  simp only [ix2_0, ix2_1, iblk0_apply, iblk4_apply, h]

/-- The output block of point `t`. -/
def outAt (c : Dev nD) (t : Fin cfg0.N) : Vec Ideal S2048x512 .bf16 :=
  outMat (iblk m c 0 t) (wmat (grid0.coords t) (iblk m c 1 t) (iblk m c 2 t) (zfill m c t (fun _ => (0#32 : BitVec 32)))) (lowAt m c t) (iblk m c 5 t)

/-- It is the block of the whole layer's result. -/
theorem outAt_apply (c : Dev nD) (t : Fin cfg0.N) (a : Fin 2048) (b : Fin 512) :
    outAt m c t (ix2 a b)
      = outGlob (V m c main_v0) (V m c main_arg1) (V m c main_arg2) (V m c main_arg3) (V m c main_arg4) (V m c main_arg5)
        (ix2 ⟨t.val / 37 * 2048 + a.val, by have := lt222 t; omega⟩ ⟨t.val % 37 * 512 + b.val, by omega⟩) := by
  unfold outAt outMat outGlob lowAt lowMat
  simp only [ix2_0, ix2_1, wmat_apply, iblk0_apply, iblk4_apply, iblk5_apply]

end Cert.KernelIdeal.Gen

end
-- ==== Proof.Ideal.Exact.lean ====
module

public import proofs.«01_k».proof.Proof.Ideal.Blocks

/-!
# The run of `KernelIdeal` with its values

The proof data name what each point leaves: the output block, the group indicator in the first scratch buffer and the
low-rank activations of the row block in the second; the other scratch buffers are written again at every point before
they are read, so nothing is said of them.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

namespace Exact

/-- The invariant after point `n`: the two scratch buffers the points carry at their contents, the others at anything. -/
def PhiN (c : Dev nD) (n : ℕ) (hn : n < cfg0.N) : sProp 𝕄 :=
  iprop(iprop(owns (c : Thread nD τ) scM0_0 fullShare poolMat ∗ owns (c : Thread nD τ) scM0_1 fullShare (lowAt m c ⟨n, hn⟩)
    ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- The invariant before position `n`. -/
def PhiS (c : Dev nD) : (n : ℕ) → n ≤ cfg0.N → sProp 𝕄
  | 0, _ => Pipeline.ΦA spec0 c
  | n + 1, hn => PhiN m c n hn

theorem PhiS_pos (c : Dev nD) (n : ℕ) (h : n ≤ cfg0.N) (hz : n ≠ 0) : PhiS m c n h = PhiN m c (n - 1) (by omega) := by
  cases n with
  | zero => exact absurd rfl hz
  | succ n => rfl

/-- The proof data: each input's buffer at its block (window 3's on the part inside the array), the output's at the
    point's block, the scratch buffers as `PhiS` has them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zfill m c t (fun _ => (0#32 : BitVec 32))
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zfill m c t (fun _ => (0#32 : BitVec 32)) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem before0_3 (c : Dev nD) (t : Fin cfg0.N) (d) : (dats m 0 c).before 3 t d = zfill m c t d :=
  before0_3_of m (dats m 0 c) (A_eq m c 3) (fun _ => fun _ => (0#32 : BitVec 32)) (after0_3 m c) t d

/-- The windows' buffers as the body finds them at point `t`, -/
def bufsPre (c : Dev nD) (t : Fin cfg0.N) : sProp 𝕄 :=
  iprop((dats m 0 c).owesAt () t.castSucc
    ∗ (∃ d : Vec Ideal S2048x3584 .bf16, owns (c : Thread nD τ) (ms0_0 t) fullShare (iblk m c 0 t))
    ∗ (∃ d : Vec Ideal S448x512 .i32, owns (c : Thread nD τ) (ms0_1 t) fullShare (iblk m c 1 t))
    ∗ (∃ d : Vec Ideal S112x512 .bf16, owns (c : Thread nD τ) (ms0_2 t) fullShare (iblk m c 2 t))
    ∗ (∃ d : Vec Ideal S112x128 .i32, owns (c : Thread nD τ) (ms0_3 t) fullShare (zfill m c t d))
    ∗ (∃ d : Vec Ideal S112x32 .bf16, owns (c : Thread nD τ) (ms0_4 t) fullShare (iblk m c 4 t))
    ∗ (∃ d : Vec Ideal S32x512 .bf16, owns (c : Thread nD τ) (ms0_5 t) fullShare (iblk m c 5 t))
    ∗ (∃ d, owns (c : Thread nD τ) (ms0_6 t) fullShare ((dats m 0 c).before 6 t d)))

/-- and as it leaves them, with the invariant. -/
def bodyPost (c : Dev nD) (t : Fin cfg0.N) : sProp 𝕄 :=
  iprop(PhiN m c t.val t.isLt ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ d : Vec Ideal S112x128 .i32, owns (c : Thread nD τ) (ms0_3 t) fullShare (zfill m c t d))
    ∗ owns (c : Thread nD τ) (ms0_4 t) fullShare (iblk m c 4 t)
    ∗ owns (c : Thread nD τ) (ms0_5 t) fullShare (iblk m c 5 t)
    ∗ owns (c : Thread nD τ) (ms0_6 t) fullShare (outAt m c t))

/-- A buffer read back after covering stores that left `X`. -/
theorem read_of_canon {s : Shape} {e : EltTy} (v : Memref sig .tc .vmem s e) (f) (L : List (View.Piece (Elt Ideal) s e)) (X : Vec Ideal s e)
    (hc : ∀ y : s.Idx, ∃ p ∈ L, y ∈ p.1.set) (h : View.canon L = X) : v.view.read (Elt Ideal) (v.view.writes (Elt Ideal) f L) = X :=
  (View.read_writes_eq_canon v.view f L hc).trans h

set_option maxHeartbeats 14400000 in
/-- The body at the first point: it stores the indicator and the activations. -/
theorem sound_A (c : Dev nD) (t : Fin cfg0.N) (h0 : t.val % 222 = 0) (h1 : t.val % 37 = 0) :
    iprop(Pipeline.ΦA spec0 c ∗ bufsPre m c t) ⊢ wp frame (wpE (defs₀ (F := Ideal)) Variants.none c none) Set.univ (bodyAt0 t) (fun _ => bodyPost m c t) := by
  unfold bufsPre bodyPost bodyAt0 PhiN
  rw [PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  have hw := wmat_zfill m c t d3
  iapply ((kernelRun0_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (zfill m c t d3) (iblk m c 4 t) (iblk m c 5 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%es0, HS0⟩, ⟨%es1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · unfold owns; iexists _; isplitr
        swap; · iexact HS0
        ipureintro
        exact read_of_canon _ _ _ _ (View.cover_of_tiledL _ S3584x128.size (by sl_kernel_rfl)) (pool_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (zfill m c t d3) (iblk m c 4 t) (iblk m c 5 t))
      isplitl [HS1]
      · unfold owns; iexists _; isplitr
        swap; · iexact HS1
        ipureintro
        exact read_of_canon _ _ _ _ (View.cover_of_tiledL _ S2048x32.size (by sl_kernel_rfl)) (low_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (zfill m c t d3) (iblk m c 4 t) (iblk m c 5 t))
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  unfold owns; iexists _; isplitr
  swap; · iexact H6
  ipureintro
  exact read_of_canon _ _ _ _ (View.cover_of_tiledL _ S2048x512.size (by sl_kernel_rfl)) ((out_A c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (zfill m c t d3) (iblk m c 4 t) (iblk m c 5 t)).trans (congrArg (fun w => outMat (iblk m c 0 t) w (lowAt m c t) (iblk m c 5 t)) hw))

set_option maxHeartbeats 14400000 in
/-- The body at the first point of a later row block: it finds the indicator and stores the activations. -/
theorem sound_C (c : Dev nD) (t : Fin cfg0.N) (n : ℕ) (hn : n < cfg0.N) (h0 : ¬t.val % 222 = 0) (h1 : t.val % 37 = 0) :
    iprop(PhiN m c n hn ∗ bufsPre m c t) ⊢ wp frame (wpE (defs₀ (F := Ideal)) Variants.none c none) Set.univ (bodyAt0 t) (fun _ => bodyPost m c t) := by
  unfold bufsPre bodyPost bodyAt0 PhiN
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  have hw := wmat_zfill m c t d3
  iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (zfill m c t d3) (iblk m c 4 t) (iblk m c 5 t) _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexists _; iexact HS1
  isplitl [HS2]; · iexact HS2
  isplitl [HS3]; · iexact HS3
  isplitl [HS4]; · iexact HS4
  iintro ⟨H0, H1, H2, H3, H4, H5, ⟨%e6, H6⟩, HS0, ⟨%es1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexact HS0
      isplitl [HS1]
      · unfold owns; iexists _; isplitr
        swap; · iexact HS1
        ipureintro
        exact read_of_canon _ _ _ _ (View.cover_of_tiledL _ S2048x32.size (by sl_kernel_rfl)) (low_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (zfill m c t d3) (iblk m c 4 t) (iblk m c 5 t))
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  unfold owns; iexists _; isplitr
  swap; · iexact H6
  ipureintro
  exact read_of_canon _ _ _ _ (View.cover_of_tiledL _ S2048x512.size (by sl_kernel_rfl)) ((out_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (zfill m c t d3) (iblk m c 4 t) (iblk m c 5 t)).trans (congrArg (fun w => outMat (iblk m c 0 t) w (lowAt m c t) (iblk m c 5 t)) hw))

set_option maxHeartbeats 14400000 in
/-- The body at every other point: it finds both. -/
theorem sound_B (c : Dev nD) (t : Fin cfg0.N) (n : ℕ) (hn : n < cfg0.N) (hp : n / 37 = t.val / 37) (h0 : ¬t.val % 222 = 0) (h1 : ¬t.val % 37 = 0) :
    iprop(PhiN m c n hn ∗ bufsPre m c t) ⊢ wp frame (wpE (defs₀ (F := Ideal)) Variants.none c none) Set.univ (bodyAt0 t) (fun _ => bodyPost m c t) := by
  unfold bufsPre bodyPost bodyAt0 PhiN
  rw [lowAt_prev m c ⟨n, hn⟩ t hp]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  have hw := wmat_zfill m c t d3
  iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (zfill m c t d3) (iblk m c 4 t) (iblk m c 5 t) _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, HS0, HS1, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexists d3; iexact H3
  isplitl [H4]; · iexact H4
  isplitl [H5]; · iexact H5
  unfold owns; iexists _; isplitr
  swap; · iexact H6
  ipureintro
  exact read_of_canon _ _ _ _ (View.cover_of_tiledL _ S2048x512.size (by sl_kernel_rfl)) ((out_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (zfill m c t d3) (iblk m c 4 t) (iblk m c 5 t) _ _).trans (congrArg (fun w => outMat (iblk m c 0 t) w (lowAt m c t) (iblk m c 5 t)) hw))

/-- The body at any point: the three cases. -/
theorem sound_body (c : Dev nD) (t : Fin cfg0.N) :
    iprop((dats m 0 c).Φ t.castSucc ∗ bufsPre m c t) ⊢ wp frame (wpE (defs₀ (F := Ideal)) Variants.none c none) Set.univ (bodyAt0 t) (fun _ => bodyPost m c t) := by
  have hN := lt222 t
  rw [show (dats m 0 c).Φ t.castSucc = PhiS m c t.val (Nat.le_of_lt t.isLt) from by dsimp only [dats]; exact Pipeline.Dat.Φ_castSucc (PhiS m c) t]
  by_cases h0 : t.val % 222 = 0
  · have hz : t.val = 0 := by omega
    have e : PhiS m c t.val (Nat.le_of_lt t.isLt) = Pipeline.ΦA spec0 c := by
      generalize t.val = n, Nat.le_of_lt t.isLt = h at hz
      subst hz; rfl
    rw [e]
    exact sound_A m c t h0 (by omega)
  · rw [PhiS_pos m c _ _ (by omega)]
    by_cases h1 : t.val % 37 = 0
    · exact sound_C m c t _ _ h0 h1
    · exact sound_B m c t _ _ (by omega) h0 h1

/-- What the body finds is the invariant and `bufsPre`. -/
theorem pre_eq (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d)))
      = iprop((dats m 0 c).Φ t.castSucc ∗ bufsPre m c t) := by
  simp only [before0_0, before0_1, before0_2, before0_3, before0_4, before0_5]; rfl

/-- What the body leaves, spelled by the proof data, is `bodyPost`. -/
theorem post_eq (c : Dev nD) (t : Fin cfg0.N) :
    iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ (∃ d, owns (c : Thread nD τ) (ms0_3 t) fullShare
          ((cfg0.win 3).fill (cfg0.grid.coords t) d ((cfg0.win 3).cut (cfg0.grid.coords t) ((dats m 0 c).after 3 t))))
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)) = bodyPost m c t := by
  rw [after0_0, after0_1, after0_2, after0_3, after0_4, after0_5, after0_6]
  unfold zfill; simp only [(cfg0.win 3).cut_fill]; rfl

/-- The library's body obligation. -/
theorem body_obligation (c : Dev nD) :
    BodyObligationLoose (dats m 0 c) (defs₀ (F := Ideal)) Variants.none () Set.univ := fun t => by
  rw [bigSep_W0, bigSep_W0, defs₀_row]
  have h := sound_body m c t
  rw [← pre_eq, ← post_eq] at h
  exact triple_restated h rfl .rfl fun _ => .rfl

/-- The invariant before the first point is the launch's, -/
theorem hin (c : Dev nD) : Pipeline.ΦA spec0 c ⊢ (dats m 0 c).Φ 0 := by
  rw [show (dats m 0 c).Φ 0 = Pipeline.ΦA spec0 c from rfl]
  try exact Idealize.SL.BI.Entails.refl _

/-- and the one after the last gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 222 := N_0; omega), PhiA0_eq]
  unfold PhiN
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

set_option backward.isDefEq.respectTransparency.types false in
/-- The launch: every array after the run as the proof data have it, then the host's reshape. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (body_obligation m) (fun c => (dats m 0 c).share_full fun _ => rfl) (fun _ _ => rfl) (V0 m) [hostOps1]
    sfx_sub sfx_fresh sfx_keeps (hmain m Variants.none) (A_eq m) (hin m) (hout m)

end Exact

end Cert.KernelIdeal.Gen

end
-- ==== Proof.Ideal.Value.lean ====
module

public import Idealize.ShloMosaic.Lib.StableHlo.ReadAt
public import proofs.«01_k».proof.Proof.Ideal.Exact

/-!
# The result of `KernelIdeal`, at an index

The output blocks tile the array, so it ends at the whole layer's value; the host's reshapes only number the rows.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat RDat Cfg Window cellOf)
open Cert.Words Cert.Spec

variable (m : (ℓ : Loc nD τ sig) → Buf (Elt Ideal) ℓ) (ρ : Dev nD → PrngReg)

/-- The array of the result, as the region finds its operands. -/
def arrGlob (c : Dev nD) : Vec Ideal S12288x18944 .bf16 :=
  outGlob (V m c main_v0) (V m c main_arg1) (V m c main_arg2) (V m c main_arg3) (V m c main_arg4) (V m c main_arg5)

/-- What a point writes back is its block of that array. -/
theorem flushed6_eq (c : Dev nD) (t : Fin cfg0.N) :
    (Exact.dats m 0 c).flushed 6 t = ((cfg0.win 6).blk t).view.read (Elt Ideal) (arrGlob m c) := by
  show (cfg0.win 6).cut (grid0.coords t) ((Exact.dats m 0 c).after 6 t) = _
  rw [Exact.after0_6]
  obtain ⟨e0, e1⟩ := index6 t
  funext y
  have h0 : (y 0).val < 2048 := (y 0).isLt
  have h1 : (y 1).val < 512 := (y 1).isLt
  have hx : (cfg0.win 6).xinj (grid0.coords t) y = ix2 (n0 := 2048) (n1 := 512) ⟨(y 0).val, h0⟩ ⟨(y 1).val, h1⟩ :=
    idx_ext2 (n := 2048) (k := 512) _ _ rfl rfl
  show outAt m c t ((cfg0.win 6).xinj (grid0.coords t) y) = arrGlob m c (((cfg0.win 6).blk t).view.emb y)
  rw [hx, outAt_apply]
  refine congrArg (arrGlob m c) (idx_ext2 (n := 12288) (k := 18944) _ _ ?_ ?_)
  · show t.val / 37 * 2048 + (y 0).val = win0_6.index t (0 : Fin 2) * 2048 + 1 * (y 0).val; omega
  · show t.val % 37 * 512 + (y 1).val = win0_6.index t (1 : Fin 2) * 512 + 1 * (y 1).val; omega

/-- An index is in point `t`'s block where its coordinates are in the block's ranges. -/
theorem mem_blk6 (t : Fin cfg0.N) (i : S12288x18944.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v1).slice (win0_6.rect t)).set ↔ _
  rw [View.set_slice_whole, Rect.mem_set_unit]
  exact Iff.rfl

/-- Every index of the array is in a point's block, and every point writes its block back. -/
theorem flush6 : ∀ t : Fin cfg0.N, (cfg0.win 6).flush t = true := (by decide +kernel : ∀ t : Fin grid0.N, win0_6.flush t = true)

theorem cover6 (i : S12288x18944.Idx) : ∃ t : Fin cfg0.N, (cfg0.win 6).flush t = true ∧ i ∈ ((cfg0.win 6).blk t).view.set := by
  have h0 : (i 0).val < 12288 := (i 0).isLt
  have h1 : (i 1).val < 18944 := (i 1).isLt
  obtain ⟨t, ht⟩ : ∃ t : Fin cfg0.N, t.val = 37 * ((i 0).val / 2048) + (i 1).val / 512 := ⟨⟨_, lt_of_lt_of_eq (by omega) N_0.symm⟩, rfl⟩
  obtain ⟨e0, e1⟩ := index6 t
  refine ⟨t, flush6 t, (mem_blk6 t i).mpr fun a => ?_⟩
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 512 ≤ (i 1).val ∧ (i 1).val < win0_6.index t (1 : Fin 2) * 512 + 512; omega

/-- The array after the run. -/
theorem final6 (c : Dev nD) : (Exact.dats m 0 c).arrAt 6 cfg0.N = arrGlob m c :=
  (Exact.dats m 0 c).arrAt_eq_of_cover 6 _ (fun t _ => flushed6_eq m c t) cover6

/-- The layer over the host's arrays: batch, sequence position, column. -/
def layer (x : Vec Ideal S12x1024x3584 .bf16) (q : Vec Ideal S448x18944 .i32) (s : Vec Ideal S112x18944 .bf16) (z : Vec Ideal S112x2368 .i32)
    (a : Vec Ideal S112x32 .bf16) (b : Vec Ideal S32x18944 .bf16) : Vec Ideal S12x1024x18944 .bf16 := fun y =>
  (∑ k, x (ix3 (y 0) (y 1) k) * wGlob q s z k (y 2)) + ∑ r, low (fun k => x (ix3 (y 0) (y 1) k)) (fun g => a (ix2 g r)) * b (ix2 r (y 2))

/-- A row of the array is a row of a batch. -/
theorem outGlob_eq_layer (x : Vec Ideal S12288x3584 .bf16) (x0 : Vec Ideal S12x1024x3584 .bf16) (q : Vec Ideal S448x18944 .i32)
    (s : Vec Ideal S112x18944 .bf16) (z : Vec Ideal S112x2368 .i32) (a : Vec Ideal S112x32 .bf16) (b : Vec Ideal S32x18944 .bf16)
    (r : Fin 12288) (p : Fin 12) (t : Fin 1024) (o : Fin 18944) (hx : ∀ k, x (ix2 r k) = x0 (ix3 p t k)) :
    outGlob x q s z a b (ix2 r o) = layer x0 q s z a b (ix3 p t o) := by
  unfold outGlob layer
  simp only [ix2_0, ix2_1, ix3_0, ix3_1, ix3_2, hx]

/-- The activations the region finds: the batches' rows one after the other. -/
theorem v0_apply (c : Dev nD) (p : Fin 12) (t : Fin 1024) (k : Fin 3584) :
    (V m c main_v0 : Vec Ideal S12288x3584 .bf16) (ix2 ⟨p.val * 1024 + t.val, by omega⟩ k)
      = (m ((c : Thread nD τ).loc main_arg0) : Vec Ideal S12x1024x3584 .bf16) (ix3 p t k) := by
  show (StableHlo.after (List.flatten [hostOps0]) (fun b => m (c, b)) (Proc.devRef .tc main_v0) : Vec Ideal S12288x3584 .bf16) _ = _
  simp only [hostOps0, List.flatten_cons, List.flatten_nil, List.append_nil]
  after_reads_at

/-- The result after the run: the array's rows cut into batches. -/
theorem v2_apply (c : Dev nD) (p : Fin 12) (t : Fin 1024) (o : Fin 18944) :
    (Pipeline.afterTail₀ cfgs (Exact.dats m) 0 (V0 m) [hostOps1] c main_v2 : Vec Ideal S12x1024x18944 .bf16) (ix3 p t o)
      = arrGlob m c (ix2 ⟨p.val * 1024 + t.val, by omega⟩ o) := by
  have hA : Pipeline.withArrays spec0 c (V0 m c) (fun w => (Exact.dats m 0 c).arrAt w cfg0.N) (Proc.devRef .tc main_v1) = arrGlob m c :=
    (Pipeline.withArrays_arr spec0 launch0.win.arr_inj c (V0 m c) (fun w => (Exact.dats m 0 c).arrAt w cfg0.N) 6).trans (final6 m c)
  unfold Pipeline.afterTail₀
  simp only [hostOps1, List.flatten_cons, List.flatten_nil, List.append_nil]
  generalize Pipeline.withArrays spec0 c (V0 m c) (fun w => (Exact.dats m 0 c).arrAt w cfg0.N) = W at hA
  rw [← hA]
  after_reads_at

/-- It is the layer over the host's arrays. -/
theorem v2_eq (c : Dev nD) :
    (Pipeline.afterTail₀ cfgs (Exact.dats m) 0 (V0 m) [hostOps1] c main_v2 : Vec Ideal S12x1024x18944 .bf16)
      = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨p, t, o, rfl⟩ : ∃ (p : Fin 12) (t : Fin 1024) (o : Fin 18944), y = ix3 p t o := ⟨y 0, y 1, y 2, eq_ix3 y⟩
  rw [v2_apply]
  refine (outGlob_eq_layer _ _ _ _ _ _ _ _ p t o (v0_apply m c p t)).trans ?_
  rw [V_main_arg1, V_main_arg2, V_main_arg3, V_main_arg4, V_main_arg5]

/-- The run with its values: the result is the layer, the arguments end unchanged. -/
theorem run_value : θ_run defs (onTc (τ := τ) (main (F := Ideal))) ⟨m, fun _ => 0, ρ⟩ fun r => ∀ c : Dev nD,
      r.2.mem ((c : Thread nD τ).loc main_v2)
        = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).2 main_v2 (Pipeline.mem_restRefs_of main_v2 (by decide) (by decide))).trans (v2_eq m c),
      ((h c).2 main_arg0 (Pipeline.mem_restRefs_of main_arg0 (by decide) (by decide))).trans (W_main_arg0 m (Exact.dats m) c),
      ((h c).1 1).trans (((Exact.dats m 0 c).arrAt_in 1 rfl _).trans ((Exact.A_eq m c 1).trans (V_main_arg1 m c))),
      ((h c).1 2).trans (((Exact.dats m 0 c).arrAt_in 2 rfl _).trans ((Exact.A_eq m c 2).trans (V_main_arg2 m c))),
      ((h c).1 3).trans (((Exact.dats m 0 c).arrAt_in 3 rfl _).trans ((Exact.A_eq m c 3).trans (V_main_arg3 m c))),
      ((h c).1 4).trans (((Exact.dats m 0 c).arrAt_in 4 rfl _).trans ((Exact.A_eq m c 4).trans (V_main_arg4 m c))),
      ((h c).1 5).trans (((Exact.dats m 0 c).arrAt_in 5 rfl _).trans ((Exact.A_eq m c 5).trans (V_main_arg5 m c)))⟩) (Exact.run_main m ρ)

end Cert.KernelIdeal.Gen

end
-- ==== Proof.Ref.Value.lean ====
module

public import Idealize.ShloMosaic.Lib.Pointwise
public import proofs.«01_k».proof.Proof.Gen.ReferenceIdeal.Run
public import proofs.«01_k».proof.Proof.Spec

/-!
# The result of the reference, at an index

The reference unpacks the codes with the position in the word as the leading axis, and brings the columns of the
activations in the same order before it multiplies; over the ideal floats the order of a sum does not matter, so the
product is the one over the columns in their own order.
-/

@[expose] public section

noncomputable section

namespace Cert.ReferenceIdeal.Value

open Idealize.ShloMosaic Idealize.ShloMosaic.TcCoe Cert.ReferenceIdeal Cert.ReferenceIdeal.Gen
open Cert.Words Cert.Spec

/-- The activations, their columns reordered. -/
def xRef (x : FVec Ideal S12x1024x3584 .bf16) : FVec Ideal S12x1024x3584 .bf16 :=
  (shapeCast S12x1024x3584 (transpose S12x1024x8x448 [0, 1, 3, 2] (shapeCast S12x1024x448x8 x shapeCasts_S12x1024x3584_S12x1024x448x8) transposes_S12x1024x448x8_S12x1024x8x448_0_1_3_2) shapeCasts_S12x1024x8x448_S12x1024x3584)

/-- The dequantized weights, their rows in the reordered order. -/
def wRef (codes : IVec S448x18944 32) (scales : FVec Ideal S112x18944 .bf16) (zeros : IVec S112x2368 32) : FVec Ideal S3584x18944 .bf16 :=
  (shapeCast S3584x18944 (mulf (subf (shapeCast S8x112x4x18944 (sitofp .bf16 (andi (Host.shrsi (broadcastInDim S8x448x18944 ![0, 1, 2] bcast_S1x448x18944_S8x448x18944_0_1_2 (broadcastInDim S1x448x18944 ![1, 2] bcast_S448x18944_S1x448x18944_1_2 codes)) (broadcastInDim S8x448x18944 ![0, 1, 2] bcast_S8x1x1_S8x448x18944_0_1_2 (broadcastInDim S8x1x1 ![0] bcast_S8_S8x1x1_0 (muli (iotaInDim S8 32 0) (broadcastInDim S8 ![] bcast_S_S8 (constantI S_ 32 4#32)))))) (broadcastInDim S8x448x18944 ![] bcast_S_S8x448x18944 (constantI S_ 32 15#32)))) shapeCasts_S8x448x18944_S8x112x4x18944) (broadcastInDim S8x112x4x18944 ![0, 1, 2, 3] bcast_S1x112x1x18944_S8x112x4x18944_0_1_2_3 (sitofp .bf16 (shapeCast S1x112x1x18944 (andi (Host.shrsi (broadcastInDim S112x2368x8 ![0, 1, 2] bcast_S112x2368x1_S112x2368x8_0_1_2 (broadcastInDim S112x2368x1 ![0, 1] bcast_S112x2368_S112x2368x1_0_1 zeros)) (broadcastInDim S112x2368x8 ![0, 1, 2] bcast_S1x1x8_S112x2368x8_0_1_2 (broadcastInDim S1x1x8 ![2] bcast_S8_S1x1x8_2 (muli (iotaInDim S8 32 0) (broadcastInDim S8 ![] bcast_S_S8 (constantI S_ 32 4#32)))))) (broadcastInDim S112x2368x8 ![] bcast_S_S112x2368x8 (constantI S_ 32 15#32))) shapeCasts_S112x2368x8_S1x112x1x18944)))) (broadcastInDim S8x112x4x18944 ![0, 1, 2, 3] bcast_S1x112x1x18944_S8x112x4x18944_0_1_2_3 (shapeCast S1x112x1x18944 scales shapeCasts_S112x18944_S1x112x1x18944))) shapeCasts_S8x112x4x18944_S3584x18944)

/-- The layer over any activations and weights brought in one order. -/
def yRef (X : FVec Ideal S12x1024x3584 .bf16) (W : FVec Ideal S3584x18944 .bf16) (x : FVec Ideal S12x1024x3584 .bf16) (la : FVec Ideal S112x32 .bf16)
    (lb : FVec Ideal S32x18944 .bf16) : FVec Ideal S12x1024x18944 .bf16 :=
  (truncf .bf16 (addf (Host.dotGeneral dot_S12x1024x3584_S3584x18944_S12x1024x18944_2_0_01_1_n_n none X W)
    (Host.dotGeneral dot_S12x1024x32_S32x18944_S12x1024x18944_2_0_01_1_n_n none (truncf .bf16 (mulf (Host.dotGeneral dot_S12x1024x112_S112x32_S12x1024x32_2_0_01_1_n_n none (truncf .bf16 (mulf (Host.reduceAdd (shapeCast S12x1024x112x32 (extf .f32 x bitsLt_bf16_f32) shapeCasts_S12x1024x3584_S12x1024x112x32) (constant S_ .f32 0x00000000#32) reducesTo_S12x1024x112x32_S12x1024x112_d3 h_S_) (broadcastInDim S12x1024x112 ![] bcast_S_S12x1024x112 (constant S_ .f32 0x3D000000#32))) bitsLt_bf16_f32) la) (broadcastInDim S12x1024x32 ![] bcast_S_S12x1024x32 (constant S_ .f32 0x3F000000#32))) bitsLt_bf16_f32) lb)) bitsLt_bf16_f32)

theorem xRef_apply (x : FVec Ideal S12x1024x3584 .bf16) (a : Fin 12) (s : Fin 1024) (k : Fin 3584) : xRef x (ix3 a s k) = x (ix3 a s (perm k)) := by
  unfold xRef
  pointwise []
  rfl

/-- Four times a place in a word. -/
theorem four_mul (p : ℕ) : IntOp.muli (BitVec.ofNat 32 p) 4#32 = BitVec.ofNat 32 (4 * p) := by
  rw [Nat.mul_comm, BitVec.ofNat_mul]; rfl

/-- The code at place `p` of a word, as the reference reads it. -/
theorem code_host (w : BitVec 32) (p : ℕ) (hp : p < 8) :
    (FloatOps.sitofp (F := Ideal) FTy.bf16 (IntOp.andi (IntOp.shrsi ArithUnit.host w (IntOp.muli (BitVec.ofNat 32 p) 4#32)) 15#32) : EReal)
      = (((nib w p : ℤ) : ℝ) : EReal) := by
  rw [shrsi_eq _ _ _ _ hp (four_mul p), ← toInt_mask _ _ hp]
  rfl

theorem wRef_apply (codes : IVec S448x18944 32) (scales : FVec Ideal S112x18944 .bf16) (zeros : IVec S112x2368 32) (k : Fin 3584) (o : Fin 18944) :
    wRef codes scales zeros (ix2 k o)
      = weight (nib (codes (ix2 ⟨(perm k).val / 8, by omega⟩ o)) ((perm k).val % 8))
        (nib (zeros (ix2 ⟨(perm k).val / 32, by omega⟩ ⟨o.val / 8, by omega⟩)) (o.val % 8)) (scales (ix2 ⟨(perm k).val / 32, by omega⟩ o)) := by
  have e8 : (perm k).val % 8 = k.val / 448 := by show (k.val % 448 * 8 + k.val / 448) % 8 = _; omega
  have hd : k.val / 4 / 112 = k.val / 448 := Nat.div_div_eq_div_mul ..
  have eq : (⟨k.val / 4 % 112 * 4 + k.val % 4, by omega⟩ : Fin 448) = ⟨(perm k).val / 8, by omega⟩ :=
    Fin.ext (by show _ = (k.val % 448 * 8 + k.val / 448) / 8; dsimp only; omega)
  have eg : (⟨k.val / 4 % 112, by omega⟩ : Fin 112) = ⟨(perm k).val / 32, by omega⟩ :=
    Fin.ext (by show _ = (k.val % 448 * 8 + k.val / 448) / 32; dsimp only; omega)
  unfold wRef
  pointwise []
  rw [code_host _ _ (by omega), code_host _ _ (by omega), eq, eg, e8]
  rfl

theorem yRef_apply (X : FVec Ideal S12x1024x3584 .bf16) (W : FVec Ideal S3584x18944 .bf16) (x : FVec Ideal S12x1024x3584 .bf16) (la : FVec Ideal S112x32 .bf16)
    (lb : FVec Ideal S32x18944 .bf16) (a : Fin 12) (s : Fin 1024) (o : Fin 18944) :
    yRef X W x la lb (ix3 a s o) = (∑ k, X (ix3 a s k) * W (ix2 k o)) + ∑ r, low (fun k => x (ix3 a s k)) (fun g => la (ix2 g r)) * lb (ix2 r o) := by
  unfold yRef
  pointwise []
  rfl

/-- The reference's result: the sum over the columns in their own order. -/
theorem ref_apply (x : FVec Ideal S12x1024x3584 .bf16) (codes : IVec S448x18944 32) (scales : FVec Ideal S112x18944 .bf16) (zeros : IVec S112x2368 32)
    (la : FVec Ideal S112x32 .bf16) (lb : FVec Ideal S32x18944 .bf16) (a : Fin 12) (s : Fin 1024) (o : Fin 18944) :
    yRef (xRef x) (wRef codes scales zeros) x la lb (ix3 a s o)
      = (∑ k : Fin 3584, x (ix3 a s k) * weight (nib (codes (ix2 ⟨k.val / 8, by omega⟩ o)) (k.val % 8))
          (nib (zeros (ix2 ⟨k.val / 32, by omega⟩ ⟨o.val / 8, by omega⟩)) (o.val % 8)) (scales (ix2 ⟨k.val / 32, by omega⟩ o)))
        + ∑ r, low (fun k => x (ix3 a s k)) (fun g => la (ix2 g r)) * lb (ix2 r o) := by
  rw [yRef_apply]
  simp only [xRef_apply, wRef_apply]
  refine congrArg (· + _) ?_
  exact Equiv.sum_comp perm (fun k : Fin 3584 => x (ix3 a s k) * weight (nib (codes (ix2 ⟨k.val / 8, by omega⟩ o)) (k.val % 8))
    (nib (zeros (ix2 ⟨k.val / 32, by omega⟩ ⟨o.val / 8, by omega⟩)) (o.val % 8)) (scales (ix2 ⟨k.val / 32, by omega⟩ o)))

end Cert.ReferenceIdeal.Value

end
-- ==== Proof.Algebraic.lean ====
module

public import proofs.«01_k».proof.Defs
public import proofs.«01_k».proof.Proof.Ideal.Value
public import proofs.«01_k».proof.Proof.Ref.Value

/-!
# The kernel and the reference compute the same layer

Over the ideal floats both programs end with the layer of the six arguments: the kernel's result is `layer` by
`run_value`, and the reference's is the same function by its reading at an index.
-/

@[expose] public section

noncomputable section

namespace Cert.Algebraic

open Idealize.ShloMosaic Idealize.ShloMosaic.TcCoe Idealize.SL.Sem
open Cert.ReferenceIdeal (S12x1024x3584 S448x18944 S112x18944 S112x2368 S112x32 S32x18944)
open Cert.ReferenceIdeal.Value (yRef xRef wRef ref_apply)

/-- The reference's result is the layer. -/
theorem ref_eq_layer (x : FVec Ideal S12x1024x3584 .bf16) (codes : IVec S448x18944 32) (scales : FVec Ideal S112x18944 .bf16) (zeros : IVec S112x2368 32)
    (la : FVec Ideal S112x32 .bf16) (lb : FVec Ideal S32x18944 .bf16) :
    yRef (xRef x) (wRef codes scales zeros) x la lb = Cert.KernelIdeal.Gen.layer x codes scales zeros la lb := by
  funext y
  obtain ⟨a, s, o, rfl⟩ : ∃ (a : Fin 12) (s : Fin 1024) (o : Fin 18944), y = ix3 a s o := ⟨y 0, y 1, y 2, eq_ix3 y⟩
  exact ref_apply x codes scales zeros la lb a s o

/-- The kernel and the reference agree over the ideal floats. -/
theorem algebraic : @Cert.algebraic_KernelIdeal_ReferenceIdeal Cert.KernelIdeal.Gen.facts Cert.ReferenceIdeal.Gen.facts := by
  intro m g m' g' _ hargs
  refine ⟨_, Cert.KernelIdeal.Gen.run_value m g, ?_⟩
  refine (θ_run _ _ _).mono (fun r h c => ?_) (Cert.ReferenceIdeal.Value.run (F := Ideal) m' g')
  obtain ⟨hv, h0⟩ := h c
  refine ⟨hv.trans ?_, h0⟩
  obtain ⟨e0, e1, e2, e3, e4, e5⟩ := hargs c
  rw [← e0, ← e1, ← e2, ← e3, ← e4, ← e5]
  exact ref_eq_layer _ _ _ _ _ _

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref.Frame
public import proofs.«01_k».proof.Proof.Bits.Forget
public import proofs.«01_k».proof.Proof.Ideal.Forget
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.Forget.frame m ρ,
  fun m ρ _ => Cert.KernelIdeal.Gen.Forget.frame m ρ,
  fun m ρ _ => Cert.ReferenceIdeal.Value.frame m ρ,
  trivial,
  Cert.Algebraic.algebraic⟩

end Cert.Proof

end
